-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x256 : Shape := ⟨3, ![1, 6144, 256]⟩
abbrev S1x256 : Shape := ⟨2, ![1, 256]⟩
abbrev S6144x6144 : Shape := ⟨2, ![6144, 6144]⟩
abbrev S1x64x64 : Shape := ⟨3, ![1, 64, 64]⟩
abbrev S6144x256 : Shape := ⟨2, ![6144, 256]⟩
abbrev S64x64 : Shape := ⟨2, ![64, 64]⟩
abbrev S3072x256 : Shape := ⟨2, ![3072, 256]⟩
abbrev S12x4x256 : Shape := ⟨3, ![12, 4, 256]⟩
abbrev S6144x512 : Shape := ⟨2, ![6144, 512]⟩
abbrev S256x256 : Shape := ⟨2, ![256, 256]⟩
abbrev S1x4x256 : Shape := ⟨3, ![1, 4, 256]⟩
abbrev S256x6144 : Shape := ⟨2, ![256, 6144]⟩
abbrev S64x192 : Shape := ⟨2, ![64, 192]⟩
abbrev S256x128 : Shape := ⟨2, ![256, 128]⟩
abbrev S128x256 : Shape := ⟨2, ![128, 256]⟩
abbrev S256x512 : Shape := ⟨2, ![256, 512]⟩
abbrev S64x128 : Shape := ⟨2, ![64, 128]⟩
abbrev S64x512 : Shape := ⟨2, ![64, 512]⟩
abbrev S192x512 : Shape := ⟨2, ![192, 512]⟩
abbrev S128x128 : Shape := ⟨2, ![128, 128]⟩
abbrev S128 : Shape := ⟨1, ![128]⟩
abbrev S1x128 : Shape := ⟨2, ![1, 128]⟩
abbrev S32x128 : Shape := ⟨2, ![32, 128]⟩
abbrev S1x1x128 : Shape := ⟨3, ![1, 1, 128]⟩
abbrev S1x2x128 : Shape := ⟨3, ![1, 2, 128]⟩
abbrev S48x256 : Shape := ⟨2, ![48, 256]⟩
abbrev S1x3072x256 : Shape := ⟨3, ![1, 3072, 256]⟩
abbrev S1x48x256 : Shape := ⟨3, ![1, 48, 256]⟩

abbrev nBuf : Space → Nat
  | .hbm => 11
  | .vmem => 12
  | .smem => 0
  | _ => 0

abbrev bufTy : (tb : Table) → Fin (tcTables nBuf tb) → BufTy
  | .hbm, ⟨0, _⟩ => ⟨S1x6144x256, .i8⟩
  | .hbm, ⟨1, _⟩ => ⟨S1x256, .f32⟩
  | .hbm, ⟨2, _⟩ => ⟨S6144x6144, .bf16⟩
  | .hbm, ⟨3, _⟩ => ⟨S1x64x64, .bf16⟩
  | .hbm, ⟨4, _⟩ => ⟨S6144x256, .i8⟩
  | .hbm, ⟨5, _⟩ => ⟨S64x64, .bf16⟩
  | .hbm, ⟨6, _⟩ => ⟨S3072x256, .i8⟩
  | .hbm, ⟨7, _⟩ => ⟨S12x4x256, .bf16⟩
  | .hbm, ⟨8, _⟩ => ⟨S48x256, .bf16⟩
  | .hbm, ⟨9, _⟩ => ⟨S1x3072x256, .i8⟩
  | .hbm, ⟨10, _⟩ => ⟨S1x48x256, .bf16⟩
  | .local _ .vmem, ⟨0, _⟩ => ⟨S6144x256, .i8⟩
  | .local _ .vmem, ⟨1, _⟩ => ⟨S1x256, .f32⟩
  | .local _ .vmem, ⟨2, _⟩ => ⟨S6144x512, .bf16⟩
  | .local _ .vmem, ⟨3, _⟩ => ⟨S6144x512, .bf16⟩
  | .local _ .vmem, ⟨4, _⟩ => ⟨S64x64, .bf16⟩
  | .local _ .vmem, ⟨5, _⟩ => ⟨S256x256, .i8⟩
  | .local _ .vmem, ⟨6, _⟩ => ⟨S256x256, .i8⟩
  | .local _ .vmem, ⟨7, _⟩ => ⟨S1x4x256, .bf16⟩
  | .local _ .vmem, ⟨8, _⟩ => ⟨S1x4x256, .bf16⟩
  | .local _ .vmem, ⟨9, _⟩ => ⟨S256x6144, .bf16⟩
  | .local _ .vmem, ⟨10, _⟩ => ⟨S64x192, .bf16⟩
  | .local _ .vmem, ⟨11, _⟩ => ⟨S256x128, .f32⟩
  | _, _ => ⟨S1x6144x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_127 : BitVec 32 := 0#32
  let c24_i32 : BitVec 32 := 24#32
  let v343 : BitVec 32 := Scalar.addi c0_i32_127 c24_i32
  let c1_i32 : BitVec 32 := 1#32
  ⟨c0_i32_127, v343, c1_i32⟩
def k0_mult1 (k0_t1 : Fin k0_t1_loop.trips) : BitVec 32 :=
  let c0_i32_127 : BitVec 32 := 0#32
  let c1_i32 : BitVec 32 := 1#32
  let arg10 : BitVec 32 := Scf.iv c0_i32_127 c1_i32 k0_t1
  let c256_i32 : BitVec 32 := 256#32
  let v360 : BitVec 32 := Scalar.muli arg10 c256_i32
  v360
def k0_off1 (k0_t1 : Fin k0_t1_loop.trips) : Fin 2 → Nat :=
  let c0_i32_127 : BitVec 32 := 0#32
  let c1_i32 : BitVec 32 := 1#32
  let arg10 : BitVec 32 := Scf.iv c0_i32_127 c1_i32 k0_t1
  let c256_i32 : BitVec 32 := 256#32
  let v360 : BitVec 32 := Scalar.muli arg10 c256_i32
  let v361 : BitVec 32 := v360
  let v362 : Index := Scalar.indexCast v361
  let c0_137 : Index := 0#32
  ![v362.toNat, 0]
def k0_off2 (k0_t1 : Fin k0_t1_loop.trips) : Fin 2 → Nat :=
  let c0_138 : Index := 0#32
  let c0_i32_127 : BitVec 32 := 0#32
  let c1_i32 : BitVec 32 := 1#32
  let arg10 : BitVec 32 := Scf.iv c0_i32_127 c1_i32 k0_t1
  let c256_i32 : BitVec 32 := 256#32
  let v360 : BitVec 32 := Scalar.muli arg10 c256_i32
  let v361 : BitVec 32 := v360
  let v367 : Index := Scalar.indexCast v361
  ![0, v367.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S6144x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x6144x256 : Shape := ⟨3, ![1, 6144, 256]⟩
abbrev S1x256 : Shape := ⟨2, ![1, 256]⟩
abbrev S6144x6144 : Shape := ⟨2, ![6144, 6144]⟩
abbrev S1x64x64 : Shape := ⟨3, ![1, 64, 64]⟩
abbrev S1x3072x256 : Shape := ⟨3, ![1, 3072, 256]⟩
abbrev S1x48x256 : Shape := ⟨3, ![1, 48, 256]⟩
abbrev S1x256x6144 : Shape := ⟨3, ![1, 256, 6144]⟩
abbrev S1x1x256 : Shape := ⟨3, ![1, 1, 256]⟩
abbrev S1x6144x4x64 : Shape := ⟨4, ![1, 6144, 4, 64]⟩
abbrev S1x48x128x256 : Shape := ⟨4, ![1, 48, 128, 256]⟩
abbrev S1x48x1x256 : Shape := ⟨4, ![1, 48, 1, 256]⟩
abbrev S1x3072x2x256 : Shape := ⟨4, ![1, 3072, 2, 256]⟩
abbrev S1x3072x1x256 : Shape := ⟨4, ![1, 3072, 1, 256]⟩

abbrev nBuf : Space → Nat
  | .hbm => 6
  | .vmem => 6
  | .smem => 0
  | _ => 0

abbrev bufTy : (tb : Table) → Fin (tcTables nBuf tb) → BufTy
  | .hbm, ⟨0, _⟩ => ⟨S1x6144x256, .i8⟩
  | .hbm, ⟨1, _⟩ => ⟨S1x256, .f32⟩
  | .hbm, ⟨2, _⟩ => ⟨S6144x6144, .bf16⟩
  | .hbm, ⟨3, _⟩ => ⟨S1x64x64, .bf16⟩
  | .hbm, ⟨4, _⟩ => ⟨S1x3072x256, .i8⟩
  | .hbm, ⟨5, _⟩ => ⟨S1x48x256, .bf16⟩
  | .local _ .vmem, ⟨0, _⟩ => ⟨S1x6144x256, .i8⟩
  | .local _ .vmem, ⟨1, _⟩ => ⟨S1x256, .f32⟩
  | .local _ .vmem, ⟨2, _⟩ => ⟨S6144x6144, .bf16⟩
  | .local _ .vmem, ⟨3, _⟩ => ⟨S1x64x64, .bf16⟩
  | .local _ .vmem, ⟨4, _⟩ => ⟨S1x3072x256, .i8⟩
  | .local _ .vmem, ⟨5, _⟩ => ⟨S1x48x256, .bf16⟩
  | _, _ => ⟨S1x6144x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x6144x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x48x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KBody.lean ====
module

public import proofs.«01_k».proof.Proof.Gen.Kernel.Frame
public import proofs.«01_k».proof.Proof.Gen.Kernel.Loops
public import Idealize.ShloMosaic.Lib.WritesUnit
public import Idealize.ShloMosaic.Lib.Pointwise

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the body computes, named -/

/-- A block of 128 channels by 128 rows lies inside the rotated weights. -/
theorem blk_slices (g : Fin 4) (c : Fin 2) : S256x512.Slices ![128 * c.val, 128 * g.val] S128x128 := by
  revert g c; decide

/-- Group `g` (128 rows) and channel half `h` (128 channels) of the rotated weights, turned to rows by channels. -/
def blkT (v : FVec F S256x512 .f32) (g : Fin 4) (h : Fin 2) : FVec F S128x128 .f32 :=
  transpose S128x128 [1, 0] (extractStridedSlice S128x128 ![128 * h.val, 128 * g.val] v (blk_slices g h)) transposes_S128x128_p1_0_S128x128

/-- The scale of each column of one block: its largest magnitude over seven, one where that is zero. -/
def qscale (b : FVec F S128x128 .f32) : FVec F S1x128 .bf16 :=
  truncf .bf16 (select
    (cmpf .oeq (shapeCast S1x128 (multiReduction .maximumf [0] S128 (absf b) 0xFF800000#32 reduces_S128x128_S128 (.inl rfl) rfl) shapeCasts_S128_S1x128)
      (broadcast S1x128 (Scalar.ofBits .f32 0x00000000#32 : F .f32)))
    (broadcast S1x128 (Scalar.ofBits .f32 0x3F800000#32 : F .f32))
    (divf (shapeCast S1x128 (multiReduction .maximumf [0] S128 (absf b) 0xFF800000#32 reduces_S128x128_S128 (.inl rfl) rfl) shapeCasts_S128_S1x128)
      (broadcast S1x128 (Scalar.ofBits .f32 0x40E00000#32 : F .f32)))) bitsLt_bf16_f32

/-- The signed codes of one block: each entry over its column's scale, rounded, clipped to seven either way. -/
def qcodes (b : FVec F S128x128 .f32) : IVec S128x128 8 :=
  fptosi 8 (minimumf (broadcast S128x128 (Scalar.ofBits .f32 0x40E00000#32 : F .f32))
    (maximumf (broadcast S128x128 (Scalar.ofBits .f32 0xC0E00000#32 : F .f32))
      (roundeven (divf b (broadcastTo S128x128 (extf .f32 (qscale b) bitsLt_bf16_f32) broadcasts_S1x128_S128x128)))))

/-- The codes of one block, two rows to a byte: four rows of bytes read as one word, the odd rows' low halves moved beside the
    even rows' (masks 0x000F000F and 0x00F000F0), the two half-words cut to bytes. -/
def qpack (q : IVec S128x128 8) : IVec S64x128 8 :=
  trunci 8 (bitcast S64x128 16
    (ori (andi (bitcast S32x128 32 q bitcasts_S128x128_w8_S32x128_w32) (broadcast S32x128 983055#32))
      (andi (shrui (bitcast S32x128 32 q bitcasts_S128x128_w8_S32x128_w32) (broadcast S32x128 4#32)) (broadcast S32x128 15728880#32)))
    bitcasts_S32x128_w32_S64x128_w16) natLt_8_16

/-- One block's scales as the kernel stores them. -/
def srow (b : FVec F S128x128 .f32) : FVec F S1x1x128 .bf16 := shapeCast S1x1x128 (qscale b) shapeCasts_S1x128_S1x1x128

/-- Rows `256 k` to `256 k + 255` of the codes. -/
def rowsAt (x1 : Vec F S6144x256 .i8) (k : Fin 24) : Vec F S256x256 .i8 := fun i =>
  x1 (ix2 (⟨256 * k.val + (i 0).val, by have h : (i 0).val < 256 := (i 0).isLt; omega⟩ : Fin 6144) (i 1 : Fin 256))

/-- The transposed, cast codes the kernel keeps from its first grid point on. -/
def wtOf (x1 : Vec F S6144x256 .i8) : Vec F S256x6144 .bf16 := fun j =>
  k0_pay3 (rowsAt x1 ⟨(j 1).val / 256, by have h : (j 1).val < 6144 := (j 1).isLt; omega⟩)
    (ix2 (j 0 : Fin 256) (⟨(j 1).val % 256, Nat.mod_lt _ (by decide)⟩ : Fin 256))

/-- The rotation matrix, transposed, three times side by side, kept from the first grid point on. -/
def r2tOf (x4 : Vec F S64x64 .bf16) : Vec F S64x192 .bf16 :=
  k0_pay4 (View.ld x4 (Rect.unit (s := S64x64) ![0, 0] S64x64.size inb_S64x64_S64x64_0_0))

/-- The channel scales as a column repeated over 128 lanes, kept from the first grid point on. -/
def wstOf (x2 : Vec F S1x256 .f32) : Vec F S256x128 .f32 :=
  k0_pay5 (View.ld x2 (Rect.unit (s := S1x256) ![0, 0] S1x256.size inb_S1x256_S1x256_0_0))

/-- The rotated weights, channels by rows, of one grid point from what the scratch buffers hold. -/
def wrot (x3 : Vec F S6144x512 .bf16) (x7 : Vec F S256x6144 .bf16) (x8 : Vec F S64x192 .bf16) (x9 : Vec F S256x128 .f32) : FVec F S256x512 .f32 :=
  k0_pay11 (k0_pay6 (View.ld x7 (Rect.unit (s := S256x6144) ![0, 0] S256x6144.size inb_S256x6144_S256x6144_0_0)) (View.ld x3 (Rect.unit (s := S6144x512) ![0, 0] S6144x512.size inb_S6144x512_S6144x512_0_0)))
    (k0_pay7 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![0, 0] S64x128.size inb_S256x128_S64x128_0_0)) (View.ld x8 (Rect.unit (s := S64x192) ![0, 0] S64x192.size inb_S64x192_S64x192_0_0)))
    (k0_pay8 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![64, 0] S64x128.size inb_S256x128_S64x128_64_0)) (View.ld x8 (Rect.unit (s := S64x192) ![0, 0] S64x192.size inb_S64x192_S64x192_0_0)))
    (k0_pay9 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![128, 0] S64x128.size inb_S256x128_S64x128_128_0)))
    (k0_pay10 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![128, 0] S64x128.size inb_S256x128_S64x128_128_0)))
    (View.ld x8 (Rect.unit (s := S64x192) ![0, 0] S64x192.size inb_S64x192_S64x192_0_0)) (View.ld x9 (Rect.unit (s := S256x128) ![192, 0] S64x128.size inb_S256x128_S64x128_192_0)) (View.ld x8 (Rect.unit (s := S64x192) ![0, 0] S64x192.size inb_S64x192_S64x192_0_0))

/-- The eight tiles of packed codes one grid point stores, last first, over the packed codes of each block. -/
def codePieces (p : Fin 4 → Fin 2 → S64x128.Idx → Elt F .i8) : List (View.Piece (Elt F) S256x256 .i8) :=
  [⟨Rect.unit (s := S256x256) ![192, 128] S64x128.size inb_S256x256_S64x128_192_128, p 3 1⟩,
   ⟨Rect.unit (s := S256x256) ![192, 0] S64x128.size inb_S256x256_S64x128_192_0, p 3 0⟩,
   ⟨Rect.unit (s := S256x256) ![128, 128] S64x128.size inb_S256x256_S64x128_128_128, p 2 1⟩,
   ⟨Rect.unit (s := S256x256) ![128, 0] S64x128.size inb_S256x256_S64x128_128_0, p 2 0⟩,
   ⟨Rect.unit (s := S256x256) ![64, 128] S64x128.size inb_S256x256_S64x128_64_128, p 1 1⟩,
   ⟨Rect.unit (s := S256x256) ![64, 0] S64x128.size inb_S256x256_S64x128_64_0, p 1 0⟩,
   ⟨Rect.unit (s := S256x256) ![0, 128] S64x128.size inb_S256x256_S64x128_0_128, p 0 1⟩,
   ⟨Rect.unit (s := S256x256) ![0, 0] S64x128.size inb_S256x256_S64x128_0_0, p 0 0⟩]

/-- The block of packed codes assembled from its eight tiles: row `r`, column `c` is row `r % 64`, column `c % 128` of the tile
    of group `r / 64` and half `c / 128`. -/
def codeTile (p : Fin 4 → Fin 2 → S64x128.Idx → Elt F .i8) : Vec F S256x256 .i8 := fun y =>
  p ⟨(y 0).val / 64, by have h : (y 0).val < 256 := (y 0).isLt; omega⟩
    ⟨(y 1).val / 128, by have h : (y 1).val < 256 := (y 1).isLt; omega⟩
    (ix2 (⟨(y 0).val % 64, Nat.mod_lt _ (by decide)⟩ : Fin 64) (⟨(y 1).val % 128, Nat.mod_lt _ (by decide)⟩ : Fin 128))

/-- The block of scales assembled from its eight rows. -/
def scaleTile (p : Fin 4 → Fin 2 → S1x1x128.Idx → Elt F .bf16) : Vec F S1x4x256 .bf16 := fun y =>
  p (y 1) ⟨(y 2).val / 128, by have h : (y 2).val < 256 := (y 2).isLt; omega⟩
    (ix3 (0 : Fin 1) (0 : Fin 1) (⟨(y 2).val % 128, Nat.mod_lt _ (by decide)⟩ : Fin 128))

/-- The codes one grid point leaves, from its rotated weights. -/
def out5 (v : FVec F S256x512 .f32) : Vec F S256x256 .i8 := codeTile fun g h => qpack (qcodes (blkT v g h))

/-- The scales one grid point leaves, from its rotated weights. -/
def out6 (v : FVec F S256x512 .f32) : Vec F S1x4x256 .bf16 := scaleTile fun g h => srow (blkT v g h)

/-! ## The stored values are the named ones -/

section Payloads

variable (v5 : FVec F S256x512 .f32) (v19 v33 v37 : FVec F S64x512 .f32) (v38 : FVec F S64x512 .bf16) (v46 v60 : Vec F S64x192 .bf16) (v48 : Vec F S64x128 .f32) (v : FVec F S256x512 .f32)

theorem blk00 : k0_pay12 v5 v19 v33 v37 v38 v46 v48 v60 = blkT (k0_pay11 v5 v19 v33 v37 v38 v46 v48 v60) 0 0 := rfl
theorem blk01 : k0_pay17 v = blkT v 0 1 := rfl
theorem blk10 : k0_pay24 v = blkT v 1 0 := rfl
theorem blk11 : k0_pay28 v = blkT v 1 1 := rfl
theorem blk20 : k0_pay32 v = blkT v 2 0 := rfl
theorem blk21 : k0_pay37 v = blkT v 2 1 := rfl
theorem blk30 : k0_pay44 v = blkT v 3 0 := rfl
theorem blk31 : k0_pay49 v = blkT v 3 1 := rfl

theorem scale00 : k0_pay13 v5 v19 v33 v37 v38 v46 v48 v60 = qscale (blkT (k0_pay11 v5 v19 v33 v37 v38 v46 v48 v60) 0 0) := by
  unfold k0_pay13; rw [blk00]; rfl
theorem scale01 : k0_pay18 v = qscale (blkT v 0 1) := by unfold k0_pay18; rw [blk01]; rfl
theorem scale10 : k0_pay25 v = qscale (blkT v 1 0) := by unfold k0_pay25; rw [blk10]; rfl
theorem scale11 : k0_pay29 v = qscale (blkT v 1 1) := by unfold k0_pay29; rw [blk11]; rfl
theorem scale20 : k0_pay34 (k0_pay33 v) = qscale (blkT v 2 0) := by unfold k0_pay34 k0_pay33; rw [blk20]; rfl
theorem scale21 : k0_pay41 (k0_pay39 v) (k0_pay40 v) (Scalar.ofBits .f32 0x3F800000#32 : F .f32) = qscale (blkT v 2 1) := by
  unfold k0_pay41 k0_pay39 k0_pay40 k0_pay38; rw [blk21]; rfl
theorem scale30 : k0_pay45 v = qscale (blkT v 3 0) := by unfold k0_pay45; rw [blk30]; rfl
theorem scale31 : k0_pay50 v = qscale (blkT v 3 1) := by unfold k0_pay50; rw [blk31]; rfl

theorem code00 : k0_pay15 (k0_pay14 v5 v19 v33 v37 v38 v46 v48 v60) = qpack (qcodes (blkT (k0_pay11 v5 v19 v33 v37 v38 v46 v48 v60) 0 0)) := by
  unfold k0_pay15 k0_pay14; rw [scale00, blk00]; rfl
theorem code01 : k0_pay22 (k0_pay20 v) (k0_pay21 v) = qpack (qcodes (blkT v 0 1)) := by
  unfold k0_pay22 k0_pay20 k0_pay21 k0_pay19; rw [scale01, blk01]; rfl
theorem code10 : k0_pay26 v = qpack (qcodes (blkT v 1 0)) := by unfold k0_pay26; rw [scale10, blk10]; rfl
theorem code11 : k0_pay30 v = qpack (qcodes (blkT v 1 1)) := by unfold k0_pay30; rw [scale11, blk11]; rfl
theorem code20 : k0_pay35 (k0_pay32 v) (k0_pay33 v) = qpack (qcodes (blkT v 2 0)) := by unfold k0_pay35; rw [scale20, blk20]; rfl
theorem code21 : k0_pay42 (k0_pay37 v) (k0_pay39 v) (k0_pay40 v) (Scalar.ofBits .f32 0x3F800000#32 : F .f32) = qpack (qcodes (blkT v 2 1)) := by
  unfold k0_pay42; rw [scale21, blk21]; rfl
theorem code30 : k0_pay47 (k0_pay46 v) (Scalar.ofBits .f32 0xC0E00000#32 : F .f32) (Scalar.ofBits .f32 0x40E00000#32 : F .f32) = qpack (qcodes (blkT v 3 0)) := by
  unfold k0_pay47 k0_pay46; rw [scale30, blk30]; rfl
theorem code31 : k0_pay1 (k0_pay51 v) (k0_pay52 v) = qpack (qcodes (blkT v 3 1)) := by
  unfold k0_pay1 k0_pay52 k0_pay51; rw [scale31, blk31]; rfl

theorem row00 : k0_pay16 (k0_pay13 v5 v19 v33 v37 v38 v46 v48 v60) = srow (blkT (k0_pay11 v5 v19 v33 v37 v38 v46 v48 v60) 0 0) := by
  rw [scale00]; rfl
theorem row01 : k0_pay23 (k0_pay18 v) = srow (blkT v 0 1) := by rw [scale01]; rfl
theorem row10 : k0_pay27 (k0_pay25 v) = srow (blkT v 1 0) := by rw [scale10]; rfl
theorem row11 : k0_pay31 v = srow (blkT v 1 1) := by unfold k0_pay31; rw [scale11]; rfl
theorem row20 : k0_pay36 (k0_pay33 v) = srow (blkT v 2 0) := by unfold k0_pay36; rw [scale20]; rfl
theorem row21 : k0_pay43 (k0_pay39 v) (k0_pay40 v) (Scalar.ofBits .f32 0x3F800000#32 : F .f32) = srow (blkT v 2 1) := by
  unfold k0_pay43; rw [scale21]; rfl
theorem row30 : k0_pay48 (k0_pay45 v) = srow (blkT v 3 0) := by rw [scale30]; rfl
theorem row31 : k0_pay2 (k0_pay50 v) = srow (blkT v 3 1) := by rw [scale31]; rfl

end Payloads

/-! ## What a list of stores leaves -/

section Reads

variable (v : View sig .tc .vmem S1x4x256 .bf16) (f : v.ty.Contents (Elt F))

/-- A store of one row of scales through the pair of rows holding it: at the row itself, the stored row. -/
theorem sub_hit (r0 c0 j : ℕ) (hj : j < 2) (inb : ∀ a, (![0, r0, c0] : Fin 3 → ℕ) a + S1x2x128.size a ≤ S1x4x256.size a) (hs)
    (old : S1x2x128.Idx → Elt F .bf16) (p : S1x1x128.Idx → Elt F .bf16) (L : List (View.Piece (Elt F) S1x4x256 .bf16)) (y : S1x4x256.Idx)
    (h1 : (y 1).val = r0 + j) (h2 : c0 ≤ (y 2).val) (h3 : (y 2).val < c0 + 128) :
    v.read (Elt F) (v.writes (Elt F) f (⟨Rect.unit (s := S1x4x256) ![0, r0, c0] S1x2x128.size inb, updateSlice old p ![0, j, 0] hs⟩ :: L)) y
      = p (ix3 (0 : Fin 1) (0 : Fin 1) (⟨(y 2).val - c0, by omega⟩ : Fin 128)) := by
  have hy0 : (y 0).val = 0 := by have : (y 0).val < 1 := (y 0).isLt; omega
  rw [View.read_writes_cons_unit_of_mem v f inb _ L y (ix3 (0 : Fin 1) (⟨j, hj⟩ : Fin 2) (⟨(y 2).val - c0, by omega⟩ : Fin 128)) rfl (by
    intro a; fin_cases a
    · simpa using hy0
    · simpa using h1
    · simp; omega)]
  unfold updateSlice
  rw [dif_pos (by
    intro a; fin_cases a
    · simp
    · simp
    · simp; omega)]
  congr 1
  funext a; fin_cases a <;> apply Fin.ext <;> simp

/-- The same store at the other row of the pair: what was loaded there. -/
theorem sub_old (r0 c0 j k : ℕ) (hj : j < 2) (hk : k < 2) (hjk : k ≠ j) (inb : ∀ a, (![0, r0, c0] : Fin 3 → ℕ) a + S1x2x128.size a ≤ S1x4x256.size a) (hs)
    (old : S1x2x128.Idx → Elt F .bf16) (p : S1x1x128.Idx → Elt F .bf16) (L : List (View.Piece (Elt F) S1x4x256 .bf16)) (y : S1x4x256.Idx)
    (h1 : (y 1).val = r0 + k) (h2 : c0 ≤ (y 2).val) (h3 : (y 2).val < c0 + 128) :
    v.read (Elt F) (v.writes (Elt F) f (⟨Rect.unit (s := S1x4x256) ![0, r0, c0] S1x2x128.size inb, updateSlice old p ![0, j, 0] hs⟩ :: L)) y
      = old (ix3 (0 : Fin 1) (⟨k, hk⟩ : Fin 2) (⟨(y 2).val - c0, by omega⟩ : Fin 128)) := by
  have hy0 : (y 0).val = 0 := by have : (y 0).val < 1 := (y 0).isLt; omega
  rw [View.read_writes_cons_unit_of_mem v f inb _ L y (ix3 (0 : Fin 1) (⟨k, hk⟩ : Fin 2) (⟨(y 2).val - c0, by omega⟩ : Fin 128)) rfl (by
    intro a; fin_cases a
    · simpa using hy0
    · simpa using h1
    · simp; omega)]
  unfold updateSlice
  rw [dif_neg (by
    intro hall
    have := hall 1
    simp at this
    omega)]

/-- The same store elsewhere: what the earlier stores left. -/
theorem sub_miss (r0 c0 : ℕ) (inb : ∀ a, (![0, r0, c0] : Fin 3 → ℕ) a + S1x2x128.size a ≤ S1x4x256.size a)
    (w : S1x2x128.Idx → Elt F .bf16) (L : List (View.Piece (Elt F) S1x4x256 .bf16)) (y : S1x4x256.Idx)
    (h : (y 1).val < r0 ∨ r0 + 2 ≤ (y 1).val ∨ (y 2).val < c0 ∨ c0 + 128 ≤ (y 2).val) :
    v.read (Elt F) (v.writes (Elt F) f (⟨Rect.unit (s := S1x4x256) ![0, r0, c0] S1x2x128.size inb, w⟩ :: L)) y
      = v.read (Elt F) (v.writes (Elt F) f L) y := by
  rcases h with h | h | h | h
  · exact View.read_writes_cons_unit_of_not_mem v f inb w L y rfl 1 (.inl (by simpa using h))
  · exact View.read_writes_cons_unit_of_not_mem v f inb w L y rfl 1 (.inr (by simpa using h))
  · exact View.read_writes_cons_unit_of_not_mem v f inb w L y rfl 2 (.inl (by simpa using h))
  · exact View.read_writes_cons_unit_of_not_mem v f inb w L y rfl 2 (.inr (by simpa using h))

end Reads

section Codes

variable (v : View sig .tc .vmem S256x256 .i8) (f : v.ty.Contents (Elt F)) (p : Fin 4 → Fin 2 → S64x128.Idx → Elt F .i8)

/-- A tile of codes just stored reads as itself. -/
theorem code_hit (g : Fin 4) (h : Fin 2) (r0 c0 : ℕ) (hg : r0 = 64 * g.val) (hc : c0 = 128 * h.val)
    (inb : ∀ a, (![r0, c0] : Fin 2 → ℕ) a + S64x128.size a ≤ S256x256.size a) (L : List (View.Piece (Elt F) S256x256 .i8)) (y : S256x256.Idx)
    (h1 : (y 0).val / 64 = g.val) (h2 : (y 1).val / 128 = h.val) :
    v.read (Elt F) (v.writes (Elt F) f (⟨Rect.unit (s := S256x256) ![r0, c0] S64x128.size inb, p g h⟩ :: L)) y = codeTile p y := by
  rw [View.read_writes_cons_unit_of_mem v f inb _ L y (ix2 (⟨(y 0).val % 64, Nat.mod_lt _ (by decide)⟩ : Fin 64) (⟨(y 1).val % 128, Nat.mod_lt _ (by decide)⟩ : Fin 128)) rfl (by
    intro a; fin_cases a
    · simp [ix2]; omega
    · simp [ix2]; omega)]
  unfold codeTile
  obtain ⟨gv, hg'⟩ := g; obtain ⟨hv, hh⟩ := h
  simp only at h1 h2
  simp only [h1, h2]

/-- Elsewhere it leaves what the earlier stores left. -/
theorem code_miss (r0 c0 : ℕ)
    (inb : ∀ a, (![r0, c0] : Fin 2 → ℕ) a + S64x128.size a ≤ S256x256.size a) (w : S64x128.Idx → Elt F .i8) (L : List (View.Piece (Elt F) S256x256 .i8)) (y : S256x256.Idx)
    (h : (y 0).val < r0 ∨ r0 + 64 ≤ (y 0).val ∨ (y 1).val < c0 ∨ c0 + 128 ≤ (y 1).val) :
    v.read (Elt F) (v.writes (Elt F) f (⟨Rect.unit (s := S256x256) ![r0, c0] S64x128.size inb, w⟩ :: L)) y = v.read (Elt F) (v.writes (Elt F) f L) y := by
  rcases h with h | h | h | h
  · exact View.read_writes_cons_unit_of_not_mem v f inb w L y rfl 0 (.inl (by simpa using h))
  · exact View.read_writes_cons_unit_of_not_mem v f inb w L y rfl 0 (.inr (by simpa using h))
  · exact View.read_writes_cons_unit_of_not_mem v f inb w L y rfl 1 (.inl (by simpa using h))
  · exact View.read_writes_cons_unit_of_not_mem v f inb w L y rfl 1 (.inr (by simpa using h))

/-- Reading the eight tiles of codes gives the assembled block. -/
theorem read_codePieces : v.read (Elt F) (v.writes (Elt F) f (codePieces p)) = codeTile p := by
  funext y
  have h0 : (y 0).val < 256 := (y 0).isLt
  have h1 : (y 1).val < 256 := (y 1).isLt
  unfold codePieces
  by_cases a31 : 192 ≤ (y 0).val ∧ 128 ≤ (y 1).val
  · exact code_hit v f p 3 1 192 128 rfl rfl _ _ y (by simp; omega) (by simp; omega)
  rw [code_miss v f 192 128 _ _ _ y (by omega)]
  by_cases a30 : 192 ≤ (y 0).val
  · exact code_hit v f p 3 0 192 0 rfl rfl _ _ y (by simp; omega) (by simp; omega)
  rw [code_miss v f 192 0 _ _ _ y (by omega)]
  by_cases a21 : 128 ≤ (y 0).val ∧ 128 ≤ (y 1).val
  · exact code_hit v f p 2 1 128 128 rfl rfl _ _ y (by simp; omega) (by simp; omega)
  rw [code_miss v f 128 128 _ _ _ y (by omega)]
  by_cases a20 : 128 ≤ (y 0).val
  · exact code_hit v f p 2 0 128 0 rfl rfl _ _ y (by simp; omega) (by simp; omega)
  rw [code_miss v f 128 0 _ _ _ y (by omega)]
  by_cases a11 : 64 ≤ (y 0).val ∧ 128 ≤ (y 1).val
  · exact code_hit v f p 1 1 64 128 rfl rfl _ _ y (by simp; omega) (by simp; omega)
  rw [code_miss v f 64 128 _ _ _ y (by omega)]
  by_cases a10 : 64 ≤ (y 0).val
  · exact code_hit v f p 1 0 64 0 rfl rfl _ _ y (by simp; omega) (by simp; omega)
  rw [code_miss v f 64 0 _ _ _ y (by omega)]
  by_cases a01 : 128 ≤ (y 1).val
  · exact code_hit v f p 0 1 0 128 rfl rfl _ _ y (by simp; omega) (by simp; omega)
  rw [code_miss v f 0 128 _ _ _ y (by omega)]
  exact code_hit v f p 0 0 0 0 rfl rfl _ _ y (by simp; omega) (by simp; omega)

end Codes

section Scales

variable (v : View sig .tc .vmem S1x4x256 .bf16)

/-- The first pair of rows of scales, row by row and half by half, last store first. -/
def scale2 (o : Fin 2 → S1x2x128.Idx → Elt F .bf16) (p : Fin 4 → Fin 2 → S1x1x128.Idx → Elt F .bf16) : List (View.Piece (Elt F) S1x4x256 .bf16) :=
  [⟨Rect.unit (s := S1x4x256) ![0, 0, 128] S1x2x128.size inb_S1x4x256_S1x2x128_0_0_128, updateSlice (o 1) (p 0 1) ![0, 0, 0] slices_S1x2x128_S1x1x128_0_0_0⟩,
   ⟨Rect.unit (s := S1x4x256) ![0, 0, 0] S1x2x128.size inb_S1x4x256_S1x2x128_0_0_0, updateSlice (o 0) (p 0 0) ![0, 0, 0] slices_S1x2x128_S1x1x128_0_0_0⟩]

/-- One more store of scales: row 1, first half. -/
def scale3 (o : Fin 2 → S1x2x128.Idx → Elt F .bf16) (p : Fin 4 → Fin 2 → S1x1x128.Idx → Elt F .bf16) : List (View.Piece (Elt F) S1x4x256 .bf16) :=
  ⟨Rect.unit (s := S1x4x256) ![0, 0, 0] S1x2x128.size inb_S1x4x256_S1x2x128_0_0_0,
    updateSlice (v.readCov (scale2 o p) (Rect.unit (s := S1x4x256) ![0, 0, 0] S1x2x128.size inb_S1x4x256_S1x2x128_0_0_0).toLoadRect) (p 1 0) ![0, 1, 0] slices_S1x2x128_S1x1x128_0_1_0⟩ :: scale2 o p

/-- One more store of scales: row 1, second half. -/
def scale4 (o : Fin 2 → S1x2x128.Idx → Elt F .bf16) (p : Fin 4 → Fin 2 → S1x1x128.Idx → Elt F .bf16) : List (View.Piece (Elt F) S1x4x256 .bf16) :=
  ⟨Rect.unit (s := S1x4x256) ![0, 0, 128] S1x2x128.size inb_S1x4x256_S1x2x128_0_0_128,
    updateSlice (v.readCov (scale3 v o p) (Rect.unit (s := S1x4x256) ![0, 0, 128] S1x2x128.size inb_S1x4x256_S1x2x128_0_0_128).toLoadRect) (p 1 1) ![0, 1, 0] slices_S1x2x128_S1x1x128_0_1_0⟩ :: scale3 v o p

/-- Two more stores of scales: row 2, both halves. -/
def scale6 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 128] S1x2x128.size inb_S1x4x256_S1x2x128_0_2_128, updateSlice (o' 1) (p 2 1) ![0, 0, 0] slices_S1x2x128_S1x1x128_0_0_0⟩ ::
  ⟨Rect.unit (s := S1x4x256) ![0, 2, 0] S1x2x128.size inb_S1x4x256_S1x2x128_0_2_0, updateSlice (o' 0) (p 2 0) ![0, 0, 0] slices_S1x2x128_S1x1x128_0_0_0⟩ :: scale4 v o p

/-- One more store of scales: row 3, first half. -/
def scale7 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 0] S1x2x128.size inb_S1x4x256_S1x2x128_0_2_0,
    updateSlice (v.readCov (scale6 v o o' p) (Rect.unit (s := S1x4x256) ![0, 2, 0] S1x2x128.size inb_S1x4x256_S1x2x128_0_2_0).toLoadRect) (p 3 0) ![0, 1, 0] slices_S1x2x128_S1x1x128_0_1_0⟩ :: scale6 v o o' p

/-- All eight stores of scales. -/
def scale8 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 128] S1x2x128.size inb_S1x4x256_S1x2x128_0_2_128,
    updateSlice (v.readCov (scale7 v o o' p) (Rect.unit (s := S1x4x256) ![0, 2, 128] S1x2x128.size inb_S1x4x256_S1x2x128_0_2_128).toLoadRect) (p 3 1) ![0, 1, 0] slices_S1x2x128_S1x1x128_0_1_0⟩ :: scale7 v o o' p

variable (o o' : Fin 2 → S1x2x128.Idx → Elt F .bf16) (p : Fin 4 → Fin 2 → S1x1x128.Idx → Elt F .bf16)

/-- A scale read from the assembled block. -/
theorem scaleTile_at (y : S1x4x256.Idx) (g : Fin 4) (h : Fin 2) (l : Fin 128) (h1 : (y 1).val = g.val) (h2 : (y 2).val = 128 * h.val + l.val) :
    scaleTile p y = p g h (ix3 (0 : Fin 1) (0 : Fin 1) l) := by
  unfold scaleTile
  obtain ⟨gv, hg⟩ := g; obtain ⟨hv, hh⟩ := h; obtain ⟨lv, hl⟩ := l
  have e1 : (y 1 : Fin 4) = ⟨gv, hg⟩ := Fin.ext h1
  have e2 : (y 2).val / 128 = hv := by simp at h2; omega
  have e3 : (y 2).val % 128 = lv := by simp at h2; omega
  have e4 : (⟨(y 2).val / 128, by have h : (y 2).val < 256 := (y 2).isLt; omega⟩ : Fin 2) = ⟨hv, hh⟩ := Fin.ext e2
  have e5 : (⟨(y 2).val % 128, Nat.mod_lt _ (by decide)⟩ : Fin 128) = ⟨lv, hl⟩ := Fin.ext e3
  rw [e4, e5]
  exact congrArg (fun t => p t _ _) e1

/-- A row just stored reads as its scales. -/
theorem sub_new (f : v.ty.Contents (Elt F)) (g : Fin 4) (h : Fin 2) (r0 c0 j : ℕ) (hj : j < 2) (hg : g.val = r0 + j) (hc : c0 = 128 * h.val)
    (inb : ∀ a, (![0, r0, c0] : Fin 3 → ℕ) a + S1x2x128.size a ≤ S1x4x256.size a) (hs)
    (old : S1x2x128.Idx → Elt F .bf16) (L : List (View.Piece (Elt F) S1x4x256 .bf16)) (y : S1x4x256.Idx)
    (h1 : (y 1).val = g.val) (h2 : c0 ≤ (y 2).val ∧ (y 2).val < c0 + 128) :
    v.read (Elt F) (v.writes (Elt F) f (⟨Rect.unit (s := S1x4x256) ![0, r0, c0] S1x2x128.size inb, updateSlice old (p g h) ![0, j, 0] hs⟩ :: L)) y
      = scaleTile p y := by
  rw [sub_hit v f r0 c0 j hj inb hs old (p g h) L y (by omega) h2.1 h2.2]
  exact (scaleTile_at p y g h _ h1 (by simp; omega)).symm

/-- The other row of the pair reads as what was loaded there, its scales where it already held them. -/
theorem sub_kept (f : v.ty.Contents (Elt F)) (r0 c0 j k : ℕ) (hj : j < 2) (hk : k < 2) (hjk : k ≠ j)
    (inb : ∀ a, (![0, r0, c0] : Fin 3 → ℕ) a + S1x2x128.size a ≤ S1x4x256.size a) (hs)
    (q : S1x1x128.Idx → Elt F .bf16) (L L' : List (View.Piece (Elt F) S1x4x256 .bf16)) (y : S1x4x256.Idx)
    (h1 : (y 1).val = r0 + k) (h2 : c0 ≤ (y 2).val ∧ (y 2).val < c0 + 128)
    (hL : v.read (Elt F) (v.writes (Elt F) v.junk L') y = scaleTile p y) :
    v.read (Elt F) (v.writes (Elt F) f (⟨Rect.unit (s := S1x4x256) ![0, r0, c0] S1x2x128.size inb,
        updateSlice (v.readCov L' (Rect.unit (s := S1x4x256) ![0, r0, c0] S1x2x128.size inb).toLoadRect) q ![0, j, 0] hs⟩ :: L)) y
      = scaleTile p y := by
  rw [sub_old v f r0 c0 j k hj hk hjk inb hs _ q L y h1 h2.1 h2.2]
  unfold View.readCov
  rw [View.readAt_apply, ← hL]
  have hy0 : (y 0).val = 0 := by have : (y 0).val < 1 := (y 0).isLt; omega
  congr 1
  funext a; apply Fin.ext; fin_cases a
  · simp [LoadRect.idx, Rect.toLoadRect, Rect.unit, hy0]
  · simp [LoadRect.idx, Rect.toLoadRect, Rect.unit, ix3]; omega
  · simp [LoadRect.idx, Rect.toLoadRect, Rect.unit, ix3]; omega

/-- After the first two stores row 0 holds its scales. -/
theorem read_scale2 (f : v.ty.Contents (Elt F)) (y : S1x4x256.Idx) (h : (y 1).val = 0) :
    v.read (Elt F) (v.writes (Elt F) f (scale2 o p)) y = scaleTile p y := by
  have hy2 : (y 2).val < 256 := (y 2).isLt
  unfold scale2
  by_cases h2 : (y 2).val < 128
  · rw [sub_miss v f 0 128 _ _ _ y (by omega)]
    exact sub_new v p f 0 0 0 0 0 (by omega) rfl rfl _ _ _ _ y h (by omega)
  · exact sub_new v p f 0 1 0 128 0 (by omega) rfl rfl _ _ _ _ y h (by omega)

/-- After the third, also the first half of row 1. -/
theorem read_scale3 (f : v.ty.Contents (Elt F)) (y : S1x4x256.Idx) (h : (y 1).val = 0 ∨ ((y 1).val = 1 ∧ (y 2).val < 128)) :
    v.read (Elt F) (v.writes (Elt F) f (scale3 v o p)) y = scaleTile p y := by
  have hy2 : (y 2).val < 256 := (y 2).isLt
  unfold scale3
  by_cases h2 : (y 2).val < 128
  · by_cases h1 : (y 1).val = 0
    · exact sub_kept v p f 0 0 1 0 (by omega) (by omega) (by omega) _ _ _ _ _ y (by omega) (by omega) (read_scale2 v o p _ y h1)
    · exact sub_new v p f 1 0 0 0 1 (by omega) rfl rfl _ _ _ _ y (by simp; omega) (by omega)
  · rw [sub_miss v f 0 0 _ _ _ y (by omega)]
    exact read_scale2 v o p f y (by omega)

/-- After the fourth, rows 0 and 1. -/
theorem read_scale4 (f : v.ty.Contents (Elt F)) (y : S1x4x256.Idx) (h : (y 1).val < 2) :
    v.read (Elt F) (v.writes (Elt F) f (scale4 v o p)) y = scaleTile p y := by
  have hy2 : (y 2).val < 256 := (y 2).isLt
  unfold scale4
  by_cases h2 : (y 2).val < 128
  · rw [sub_miss v f 0 128 _ _ _ y (by omega)]
    exact read_scale3 v o p f y (by omega)
  · by_cases h1 : (y 1).val = 0
    · exact sub_kept v p f 0 128 1 0 (by omega) (by omega) (by omega) _ _ _ _ _ y (by omega) (by omega) (read_scale3 v o p _ y (by omega))
    · exact sub_new v p f 1 1 0 128 1 (by omega) rfl rfl _ _ _ _ y (by simp; omega) (by omega)

/-- After the sixth, rows 0 to 2. -/
theorem read_scale6 (f : v.ty.Contents (Elt F)) (y : S1x4x256.Idx) (h : (y 1).val < 3) :
    v.read (Elt F) (v.writes (Elt F) f (scale6 v o o' p)) y = scaleTile p y := by
  have hy2 : (y 2).val < 256 := (y 2).isLt
  unfold scale6
  by_cases h1 : (y 1).val < 2
  · rw [sub_miss v f 2 128 _ _ _ y (by omega), sub_miss v f 2 0 _ _ _ y (by omega)]
    exact read_scale4 v o p f y h1
  · by_cases h2 : (y 2).val < 128
    · rw [sub_miss v f 2 128 _ _ _ y (by omega)]
      exact sub_new v p f 2 0 2 0 0 (by omega) rfl rfl _ _ _ _ y (by simp; omega) (by omega)
    · exact sub_new v p f 2 1 2 128 0 (by omega) rfl rfl _ _ _ _ y (by simp; omega) (by omega)

/-- After the seventh, also the first half of row 3. -/
theorem read_scale7 (f : v.ty.Contents (Elt F)) (y : S1x4x256.Idx) (h : (y 1).val < 3 ∨ (y 2).val < 128) :
    v.read (Elt F) (v.writes (Elt F) f (scale7 v o o' p)) y = scaleTile p y := by
  have hy2 : (y 2).val < 256 := (y 2).isLt
  have hy1 : (y 1).val < 4 := (y 1).isLt
  unfold scale7
  by_cases hm : (y 1).val < 2 ∨ 128 ≤ (y 2).val
  · rw [sub_miss v f 2 0 _ _ _ y (by omega)]
    exact read_scale6 v o o' p f y (by omega)
  · by_cases h1 : (y 1).val = 2
    · exact sub_kept v p f 2 0 1 0 (by omega) (by omega) (by omega) _ _ _ _ _ y (by omega) (by omega) (read_scale6 v o o' p _ y (by omega))
    · exact sub_new v p f 3 0 2 0 1 (by omega) rfl rfl _ _ _ _ y (by simp; omega) (by omega)

/-- After the eighth, every row. -/
theorem read_scale8 (f : v.ty.Contents (Elt F)) :
    v.read (Elt F) (v.writes (Elt F) f (scale8 v o o' p)) = scaleTile p := by
  funext y
  have hy2 : (y 2).val < 256 := (y 2).isLt
  have hy1 : (y 1).val < 4 := (y 1).isLt
  unfold scale8
  by_cases hm : (y 1).val < 2 ∨ (y 2).val < 128
  · rw [sub_miss v f 2 128 _ _ _ y (by omega)]
    exact read_scale7 v o o' p f y (by omega)
  · by_cases h1 : (y 1).val = 2
    · exact sub_kept v p f 2 128 1 0 (by omega) (by omega) (by omega) _ _ _ _ _ y (by omega) (by omega) (read_scale7 v o o' p _ y (by omega))
    · exact sub_new v p f 3 1 2 128 1 (by omega) rfl rfl _ _ _ _ y (by simp; omega) (by omega)

end Scales

/-! ## The body -/

/-- What the body does first: at grid point 0 it fills the three scratch buffers, elsewhere nothing. -/
def initProg (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) : Prog (TpuEff nD τ sig (Elt F) Λ₀ .tc) PUnit :=
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 k0_h1)
    let v344 : Vec F S64x64 .bf16 ← Prog.lift (.load arg4 (Rect.unit (s := S64x64) ![0, 0] S64x64.size inb_S64x64_S64x64_0_0).toLoadRect (View.loadsAt_vmem h_S64x64))
    let v350 : Vec F S64x192 .bf16 ← Prog.lift (.load arg8 (Rect.unit (s := S64x192) ![0, 0] S64x192.size inb_S64x192_S64x192_0_0).toLoadRect (View.loadsAt_vmem h_S64x192))
    Prog.lift (.store arg8 (Rect.unit (s := S64x192) ![0, 0] S64x192.size inb_S64x192_S64x192_0_0) (k0_pay4 v344) Finset.univ (View.stores_vmem h_S64x192 (harg8.storeExact_slice rfl _ packedbf16_S64x192_S64x192_0_0) (fun _ => rfl)) (.inl rfl))
    let v353 : Vec F S1x256 .f32 ← Prog.lift (.load arg2 (Rect.unit (s := S1x256) ![0, 0] S1x256.size inb_S1x256_S1x256_0_0).toLoadRect (View.loadsAt_vmem h_S1x256))
    let v357 : Vec F S256x128 .f32 ← Prog.lift (.load arg9 (Rect.unit (s := S256x128) ![0, 0] S256x128.size inb_S256x128_S256x128_0_0).toLoadRect (View.loadsAt_vmem h_S256x128))
    Prog.lift (.store arg9 (Rect.unit (s := S256x128) ![0, 0] S256x128.size inb_S256x128_S256x128_0_0) (k0_pay5 v353) Finset.univ (View.stores_vmem_bits_univ h_S256x128 rfl) (.inl rfl))
    pure ⟨⟩
  else do
    pure ⟨⟩

/-- What the body loads and computes next, at every grid point. -/
def restProg (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) :
    Prog (TpuEff nD τ sig (Elt F) Λ₀ .tc) (Σ' (v5 : FVec F S256x512 .f32) (v19 : FVec F S64x512 .f32) (v33 : FVec F S64x512 .f32) (v37 : FVec F S64x512 .f32), FVec F S64x512 .bf16) := do
  let v3 : Vec F S256x6144 .bf16 ← Prog.lift (.load arg7 (Rect.unit (s := S256x6144) ![0, 0] S256x6144.size inb_S256x6144_S256x6144_0_0).toLoadRect (View.loadsAt_vmem h_S256x6144))
  let v4 : Vec F S6144x512 .bf16 ← Prog.lift (.load arg3 (Rect.unit (s := S6144x512) ![0, 0] S6144x512.size inb_S6144x512_S6144x512_0_0).toLoadRect (View.loadsAt_vmem h_S6144x512))
  let v6 : Vec F S64x128 .f32 ← Prog.lift (.load arg9 (Rect.unit (s := S256x128) ![0, 0] S64x128.size inb_S256x128_S64x128_0_0).toLoadRect (View.loadsAt_vmem h_S64x128))
  let v18 : Vec F S64x192 .bf16 ← Prog.lift (.load arg8 (Rect.unit (s := S64x192) ![0, 0] S64x192.size inb_S64x192_S64x192_0_0).toLoadRect (View.loadsAt_vmem h_S64x192))
  let v20 : Vec F S64x128 .f32 ← Prog.lift (.load arg9 (Rect.unit (s := S256x128) ![64, 0] S64x128.size inb_S256x128_S64x128_64_0).toLoadRect (View.loadsAt_vmem h_S64x128))
  let v32 : Vec F S64x192 .bf16 ← Prog.lift (.load arg8 (Rect.unit (s := S64x192) ![0, 0] S64x192.size inb_S64x192_S64x192_0_0).toLoadRect (View.loadsAt_vmem h_S64x192))
  let v34 : Vec F S64x128 .f32 ← Prog.lift (.load arg9 (Rect.unit (s := S256x128) ![128, 0] S64x128.size inb_S256x128_S64x128_128_0).toLoadRect (View.loadsAt_vmem h_S64x128))
  pure ⟨k0_pay6 v3 v4, k0_pay7 v3 v4 v6 v18, k0_pay8 v3 v4 v20 v32, k0_pay9 v3 v4 v34, k0_pay10 v3 v4 v34⟩

theorem part1_split (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) :
    k0_part1_skel (F := F) i arg1 harg1 arg2 harg2 arg3 harg3 arg4 harg4 arg5 harg5 arg6 harg6 arg7 harg7 arg8 harg8 arg9 harg9 = initProg i arg1 harg1 arg2 harg2 arg3 harg3 arg4 harg4 arg5 harg5 arg6 harg6 arg7 harg7 arg8 harg8 arg9 harg9 >>= fun _ => restProg arg1 harg1 arg2 harg2 arg3 harg3 arg4 harg4 arg5 harg5 arg6 harg6 arg7 harg7 arg8 harg8 arg9 harg9 := by
  unfold k0_part1_skel initProg restProg
  by_cases h : k0_cond1 i = 1#1
  · simp only [dif_pos h, bind_assoc, pure_bind]
  · simp only [dif_neg h, pure_bind]

set_option maxHeartbeats 800000 in
/-- The body: whatever the scratch buffers hold after its first branch, it leaves the codes and scales of the rotated weights. -/
theorem sound_kernel (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (x3 : Vec F S6144x512 .bf16) (x7 : Vec F S256x6144 .bf16) (x8 : Vec F S64x192 .bf16) (x9 : Vec F S256x128 .f32) (P R : sProp 𝕄)
    (hinit : ∀ K' : PUnit → sProp 𝕄, iprop(P ∗ ((R ∗ owns (c : Thread nD τ) arg7 fullShare x7 ∗ owns (c : Thread nD τ) arg8 fullShare x8 ∗ owns (c : Thread nD τ) arg9 fullShare x9) -∗ K' ⟨⟩))
      ⊢ wp frame (wpE (defs₀ (F := F)) Variants.none c none) E (initProg (F := F) i arg1 harg1 arg2 harg2 arg3 harg3 arg4 harg4 arg5 harg5 arg6 harg6 arg7 harg7 arg8 harg8 arg9 harg9) K')
    (K : PUnit → sProp 𝕄) :
    iprop(P ∗ owns (c : Thread nD τ) arg3 fullShare x3 ∗ (∃ d, owns (c : Thread nD τ) arg5 fullShare d) ∗ (∃ d, owns (c : Thread nD τ) arg6 fullShare d)
        ∗ ((R ∗ owns (c : Thread nD τ) arg3 fullShare x3 ∗ owns (c : Thread nD τ) arg5 fullShare (out5 (wrot x3 x7 x8 x9)) ∗ owns (c : Thread nD τ) arg6 fullShare (out6 (wrot x3 x7 x8 x9))
          ∗ owns (c : Thread nD τ) arg7 fullShare x7 ∗ owns (c : Thread nD τ) arg8 fullShare x8 ∗ owns (c : Thread nD τ) arg9 fullShare x9) -∗ K ⟨⟩))
      ⊢ wp frame (wpE (defs₀ (F := F)) Variants.none c none) E (cc0_value_fold i arg1 harg1 arg2 harg2 arg3 harg3 arg4 harg4 arg5 harg5 arg6 harg6 arg7 harg7 arg8 harg8 arg9 harg9) K := by
  simp only [cc0_value_fold_eq_skeleton]; unfold cc0_value_fold_skel
  simp only [k0_part1_eq_skeleton, k0_part2_eq_skeleton, k0_part3_eq_skeleton, k0_part4_eq_skeleton, k0_part5_eq_skeleton, k0_part6_eq_skeleton, k0_part7_eq_skeleton, k0_part8_eq_skeleton]
  rw [part1_split, wp_bind, wp_bind]
  iintro ⟨Hp, H3, H5, H6, Hk⟩
  iapply hinit
  isplitl [Hp]; · iexact Hp
  iintro ⟨HR, H7, H8, H9⟩
  rw [← wp_bind]
  unfold restProg
  unfold owns
  icases H3 with ⟨%f3, %hf3, H3⟩
  icases H5 with ⟨%d5, %f5, -, H5⟩
  icases H6 with ⟨%d6, %f6, -, H6⟩
  icases H7 with ⟨%f7, %hf7, H7⟩
  icases H8 with ⟨%f8, %hf8, H8⟩
  icases H9 with ⟨%f9, %hf9, H9⟩
  subst hf3 hf7 hf8 hf9
  sl_exec
  sl_step
  iapply Hk
  isplitl [HR]; · iexact HR
  isplitl [H3]; · iexists _; isplitr; · ipureintro; rfl
                  iexact H3
  have ecode31 : k0_pay1 (sound_kernel.sl.r_15 c arg3 arg7 arg8 arg9 f3 f7 f8 f9) (sound_kernel.sl.r_16 c arg3 arg7 arg8 arg9 f3 f7 f8 f9) = qpack (qcodes (blkT (sound_kernel.sl.r c arg3 arg7 arg8 arg9 f3 f7 f8 f9) 3 1)) := code31  _
  have ecode30 : k0_pay47 (sound_kernel.sl.r_13 c arg3 arg7 arg8 arg9 f3 f7 f8 f9) sound_kernel.sl.cst_104 sound_kernel.sl.cst_105 = qpack (qcodes (blkT (sound_kernel.sl.r c arg3 arg7 arg8 arg9 f3 f7 f8 f9) 3 0)) := code30  _
  have ecode21 : k0_pay42 (sound_kernel.sl.r_9 c arg3 arg7 arg8 arg9 f3 f7 f8 f9) (sound_kernel.sl.r_10 c arg3 arg7 arg8 arg9 f3 f7 f8 f9) (sound_kernel.sl.r_11 c arg3 arg7 arg8 arg9 f3 f7 f8 f9) sound_kernel.sl.cst_89 = qpack (qcodes (blkT (sound_kernel.sl.r c arg3 arg7 arg8 arg9 f3 f7 f8 f9) 2 1)) := code21  _
  have ecode20 : k0_pay35 (sound_kernel.sl.r_7 c arg3 arg7 arg8 arg9 f3 f7 f8 f9) (sound_kernel.sl.r_8 c arg3 arg7 arg8 arg9 f3 f7 f8 f9) = qpack (qcodes (blkT (sound_kernel.sl.r c arg3 arg7 arg8 arg9 f3 f7 f8 f9) 2 0)) := code20  _
  have ecode11 : k0_pay30 (sound_kernel.sl.r c arg3 arg7 arg8 arg9 f3 f7 f8 f9) = qpack (qcodes (blkT (sound_kernel.sl.r c arg3 arg7 arg8 arg9 f3 f7 f8 f9) 1 1)) := code11  _
  have ecode10 : k0_pay26 (sound_kernel.sl.r c arg3 arg7 arg8 arg9 f3 f7 f8 f9) = qpack (qcodes (blkT (sound_kernel.sl.r c arg3 arg7 arg8 arg9 f3 f7 f8 f9) 1 0)) := code10  _
  have ecode01 : k0_pay22 (sound_kernel.sl.r_4 c arg3 arg7 arg8 arg9 f3 f7 f8 f9) (sound_kernel.sl.r_5 c arg3 arg7 arg8 arg9 f3 f7 f8 f9) = qpack (qcodes (blkT (sound_kernel.sl.r c arg3 arg7 arg8 arg9 f3 f7 f8 f9) 0 1)) := code01  _
  have ecode00 : k0_pay15 (sound_kernel.sl.r_2 c arg3 arg7 arg8 arg9 f3 f7 f8 f9) = qpack (qcodes (blkT (sound_kernel.sl.r c arg3 arg7 arg8 arg9 f3 f7 f8 f9) 0 0)) := code00  _ _ _ _ _ _ _ _
  have erow31 : k0_pay2 (sound_kernel.sl.r_14 c arg3 arg7 arg8 arg9 f3 f7 f8 f9) = srow (blkT (sound_kernel.sl.r c arg3 arg7 arg8 arg9 f3 f7 f8 f9) 3 1) := row31  _
  have erow30 : k0_pay48 (sound_kernel.sl.r_12 c arg3 arg7 arg8 arg9 f3 f7 f8 f9) = srow (blkT (sound_kernel.sl.r c arg3 arg7 arg8 arg9 f3 f7 f8 f9) 3 0) := row30  _
  have erow21 : k0_pay43 (sound_kernel.sl.r_10 c arg3 arg7 arg8 arg9 f3 f7 f8 f9) (sound_kernel.sl.r_11 c arg3 arg7 arg8 arg9 f3 f7 f8 f9) sound_kernel.sl.cst_89 = srow (blkT (sound_kernel.sl.r c arg3 arg7 arg8 arg9 f3 f7 f8 f9) 2 1) := row21  _
  have erow20 : k0_pay36 (sound_kernel.sl.r_8 c arg3 arg7 arg8 arg9 f3 f7 f8 f9) = srow (blkT (sound_kernel.sl.r c arg3 arg7 arg8 arg9 f3 f7 f8 f9) 2 0) := row20  _
  have erow11 : k0_pay31 (sound_kernel.sl.r c arg3 arg7 arg8 arg9 f3 f7 f8 f9) = srow (blkT (sound_kernel.sl.r c arg3 arg7 arg8 arg9 f3 f7 f8 f9) 1 1) := row11  _
  have erow10 : k0_pay27 (sound_kernel.sl.r_6 c arg3 arg7 arg8 arg9 f3 f7 f8 f9) = srow (blkT (sound_kernel.sl.r c arg3 arg7 arg8 arg9 f3 f7 f8 f9) 1 0) := row10  _
  have erow01 : k0_pay23 (sound_kernel.sl.r_3 c arg3 arg7 arg8 arg9 f3 f7 f8 f9) = srow (blkT (sound_kernel.sl.r c arg3 arg7 arg8 arg9 f3 f7 f8 f9) 0 1) := row01  _
  have erow00 : k0_pay16 (sound_kernel.sl.r_1 c arg3 arg7 arg8 arg9 f3 f7 f8 f9) = srow (blkT (sound_kernel.sl.r c arg3 arg7 arg8 arg9 f3 f7 f8 f9) 0 0) := row00  _ _ _ _ _ _ _ _
  have eW : (sound_kernel.sl.r c arg3 arg7 arg8 arg9 f3 f7 f8 f9) = wrot (arg3.view.read (Elt F) f3) (arg7.view.read (Elt F) f7) (arg8.view.read (Elt F) f8) (arg9.view.read (Elt F) f9) := rfl
  isplitl [H5]
  · iexists _; isplitr
    swap; · iexact H5
    ipureintro
    rw [← eW, ecode31, ecode30, ecode21, ecode20, ecode11, ecode10, ecode01, ecode00]
    exact read_codePieces arg5.view f5 fun g h => qpack (qcodes (blkT (sound_kernel.sl.r c arg3 arg7 arg8 arg9 f3 f7 f8 f9) g h))
  isplitl [H6]
  · iexists _; isplitr
    swap; · iexact H6
    ipureintro
    rw [← eW]
    delta sound_kernel.sl.old_6
    delta sound_kernel.sl.H6_7
    delta sound_kernel.sl.old_5
    delta sound_kernel.sl.H6_6
    delta sound_kernel.sl.old_4
    delta sound_kernel.sl.old_3
    delta sound_kernel.sl.old_2
    delta sound_kernel.sl.H6_3
    delta sound_kernel.sl.old_1
    delta sound_kernel.sl.H6_2
    delta sound_kernel.sl.old
    rw [erow31, erow30, erow21, erow20, erow11, erow10, erow01, erow00]
    exact read_scale8 arg6.view ![arg6.view.readAt (Elt F) (Rect.unit (s := S1x4x256) ![0, 0, 0] S1x2x128.size inb_S1x4x256_S1x2x128_0_0_0).toLoadRect f6,
        arg6.view.readAt (Elt F) (Rect.unit (s := S1x4x256) ![0, 0, 128] S1x2x128.size inb_S1x4x256_S1x2x128_0_0_128).toLoadRect f6]
      ![arg6.view.readAt (Elt F) (Rect.unit (s := S1x4x256) ![0, 2, 0] S1x2x128.size inb_S1x4x256_S1x2x128_0_2_0).toLoadRect f6,
        arg6.view.readAt (Elt F) (Rect.unit (s := S1x4x256) ![0, 2, 128] S1x2x128.size inb_S1x4x256_S1x2x128_0_2_128).toLoadRect f6]
      (fun g h => srow (blkT (sound_kernel.sl.r c arg3 arg7 arg8 arg9 f3 f7 f8 f9) g h)) f6
  isplitl [H7]; · iexists _; isplitr; · ipureintro; rfl
                  iexact H7
  isplitl [H8]; · iexists _; isplitr; · ipureintro; rfl
                  iexact H8
  iexists _; isplitr; · ipureintro; rfl
  iexact H9

/-! ## The first grid point fills the scratch buffers -/

theorem off1_eq : ∀ k : Fin k0_t1_loop.trips, k0_off1 k = ![256 * k.val, 0] := by decide +kernel

theorem off2_eq : ∀ k : Fin k0_t1_loop.trips, k0_off2 k = ![0, 256 * k.val] := by decide +kernel

theorem trips_eq : k0_t1_loop.trips = 24 := by decide +kernel

/-- A tile of 256 columns just stored reads as itself. -/
theorem wt_hit (v : View sig .tc .vmem S256x6144 .bf16) (f : v.ty.Contents (Elt F)) (off : Fin 2 → ℕ) (r : ℕ) (ho : off = ![0, r])
    (inb : ∀ a, off a + S256x256.size a ≤ S256x6144.size a) (w : S256x256.Idx → Elt F .bf16) (L : List (View.Piece (Elt F) S256x6144 .bf16))
    (y : S256x6144.Idx) (h1 : r ≤ (y 1).val) (h2 : (y 1).val < r + 256) :
    v.read (Elt F) (v.writes (Elt F) f (⟨Rect.unit (s := S256x6144) off S256x256.size inb, w⟩ :: L)) y
      = w (ix2 (y 0 : Fin 256) (⟨(y 1).val - r, by omega⟩ : Fin 256)) := by
  subst ho
  exact View.read_writes_cons_unit_of_mem v f inb w L y (ix2 (y 0 : Fin 256) (⟨(y 1).val - r, by omega⟩ : Fin 256)) rfl (by
    intro a; fin_cases a
    · simp [ix2]
    · simp [ix2]; omega)

/-- Elsewhere it leaves what the earlier stores left. -/
theorem wt_miss (v : View sig .tc .vmem S256x6144 .bf16) (f : v.ty.Contents (Elt F)) (off : Fin 2 → ℕ) (r : ℕ) (ho : off = ![0, r])
    (inb : ∀ a, off a + S256x256.size a ≤ S256x6144.size a) (w : S256x256.Idx → Elt F .bf16) (L : List (View.Piece (Elt F) S256x6144 .bf16))
    (y : S256x6144.Idx) (h : (y 1).val < r) :
    v.read (Elt F) (v.writes (Elt F) f (⟨Rect.unit (s := S256x6144) off S256x256.size inb, w⟩ :: L)) y = v.read (Elt F) (v.writes (Elt F) f L) y := by
  subst ho
  exact View.read_writes_cons_unit_of_not_mem v f inb w L y rfl 1 (.inl (by simpa using h))

/-- A load of 256 rows of codes. -/
theorem rows_load (v : View sig .tc .vmem S6144x256 .i8) (f : v.ty.Contents (Elt F)) (off : Fin 2 → ℕ) (k : Fin 24) (ho : off = ![256 * k.val, 0])
    (inb : ∀ a, off a + S256x256.size a ≤ S6144x256.size a) :
    v.readAt (Elt F) (Rect.unit (s := S6144x256) off S256x256.size inb).toLoadRect f = rowsAt (v.read (Elt F) f) k := by
  subst ho
  funext x
  unfold rowsAt
  rw [View.readAt_apply]
  congr 1
  funext a; apply Fin.ext; fin_cases a
  · simp [LoadRect.idx, Rect.toLoadRect, Rect.unit, ix2]
  · simp [LoadRect.idx, Rect.toLoadRect, Rect.unit, ix2]

section Loop

variable (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
  (hi : k0_cond1 i = 1#1) (X : arg1.view.ty.Contents (Elt F))

/-- Trip `k` of the loop stores one tile: 256 rows of codes, transposed and cast. -/
theorem trip_eq (k : Fin k0_t1_loop.trips) :
    tripL_k0_t1 (F := F) Variants.none c none i arg1 harg1 arg2 harg2 arg3 harg3 arg4 harg4 arg5 harg5 arg6 harg6 arg7 harg7 arg8 harg8 arg9 harg9 hi X k
      = [⟨Rect.unit (s := S256x6144) (k0_off2 k) S256x256.size (k0_off2_inb i k hi),
          k0_pay3 (arg1.view.readAt (Elt F) (Rect.unit (s := S6144x256) (k0_off1 k) S256x256.size (k0_off1_inb i k hi)).toLoadRect X)⟩] := by
  unfold tripL_k0_t1 trip_k0_t1
  rfl

/-- After `n` trips the first `256 n` columns of the buffer hold the transposed, cast codes. -/
theorem pb_read (G : arg7.view.ty.Contents (Elt F)) (n : ℕ) (hn : n ≤ k0_t1_loop.trips) (y : S256x6144.Idx) (hy : (y 1).val < 256 * n) :
    arg7.view.read (Elt F) (arg7.view.writes (Elt F) G (pb_k0_t1 (F := F) Variants.none c none i arg1 harg1 arg2 harg2 arg3 harg3 arg4 harg4 arg5 harg5 arg6 harg6 arg7 harg7 arg8 harg8 arg9 harg9 hi X n)) y
      = wtOf (arg1.view.read (Elt F) X) y := by
  induction n with
  | zero => omega
  | succ n ih =>
    rw [pb_k0_t1_succ Variants.none c none i arg1 harg1 arg2 harg2 arg3 harg3 arg4 harg4 arg5 harg5 arg6 harg6 arg7 harg7 arg8 harg8 arg9 harg9 hi X ⟨n, hn⟩, trip_eq c i arg1 harg1 arg2 harg2 arg3 harg3 arg4 harg4 arg5 harg5 arg6 harg6 arg7 harg7 arg8 harg8 arg9 harg9 hi X ⟨n, hn⟩]
    simp only [List.singleton_append]
    by_cases h : (y 1).val < 256 * n
    · exact (wt_miss _ _ _ _ (off2_eq ⟨n, hn⟩) _ _ _ y h).trans (ih (by omega) h)
    · have hn' : n < 24 := by rw [← trips_eq]; omega
      refine (wt_hit _ _ _ _ (off2_eq ⟨n, hn⟩) _ _ _ y (by simpa using h) (by simp; omega)).trans ?_
      rw [rows_load arg1.view X _ ⟨n, hn'⟩ (off1_eq ⟨n, hn⟩)]
      unfold wtOf
      have e1 : (y 1).val / 256 = n := by omega
      have e2 : (y 1).val % 256 = (y 1).val - 256 * n := by omega
      have e3 : (⟨(y 1).val / 256, by have h : (y 1).val < 6144 := (y 1).isLt; omega⟩ : Fin 24) = ⟨n, hn'⟩ := Fin.ext e1
      have e4 : (⟨(y 1).val % 256, Nat.mod_lt _ (by decide)⟩ : Fin 256) = ⟨(y 1).val - 256 * n, by omega⟩ := Fin.ext e2
      rw [e3, e4]

/-- After the loop the buffer holds the transposed, cast codes. -/
theorem pb_all (G : arg7.view.ty.Contents (Elt F)) :
    arg7.view.read (Elt F) (arg7.view.writes (Elt F) G (pb_k0_t1 (F := F) Variants.none c none i arg1 harg1 arg2 harg2 arg3 harg3 arg4 harg4 arg5 harg5 arg6 harg6 arg7 harg7 arg8 harg8 arg9 harg9 hi X k0_t1_loop.trips))
      = wtOf (arg1.view.read (Elt F) X) := by
  funext y
  refine pb_read c i arg1 harg1 arg2 harg2 arg3 harg3 arg4 harg4 arg5 harg5 arg6 harg6 arg7 harg7 arg8 harg8 arg9 harg9 hi X G _ le_rfl y ?_
  have h : (y 1).val < 6144 := (y 1).isLt
  rw [trips_eq]; omega

end Loop

/-- At the first grid point the body fills the three scratch buffers from the codes, the channel scales and the rotation. -/
theorem init_first (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (hi : k0_cond1 i = 1#1) (x1 : Vec F S6144x256 .i8) (x2 : Vec F S1x256 .f32) (x4 : Vec F S64x64 .bf16) (K' : PUnit → sProp 𝕄) :
    iprop((owns (c : Thread nD τ) arg1 fullShare x1 ∗ owns (c : Thread nD τ) arg2 fullShare x2 ∗ owns (c : Thread nD τ) arg4 fullShare x4
        ∗ (∃ d, owns (c : Thread nD τ) arg7 fullShare d) ∗ (∃ d, owns (c : Thread nD τ) arg8 fullShare d) ∗ (∃ d, owns (c : Thread nD τ) arg9 fullShare d))
      ∗ (((owns (c : Thread nD τ) arg1 fullShare x1 ∗ owns (c : Thread nD τ) arg2 fullShare x2 ∗ owns (c : Thread nD τ) arg4 fullShare x4)
        ∗ owns (c : Thread nD τ) arg7 fullShare (wtOf x1) ∗ owns (c : Thread nD τ) arg8 fullShare (r2tOf x4) ∗ owns (c : Thread nD τ) arg9 fullShare (wstOf x2)) -∗ K' ⟨⟩))
      ⊢ wp frame (wpE (defs₀ (F := F)) Variants.none c none) E (initProg (F := F) i arg1 harg1 arg2 harg2 arg3 harg3 arg4 harg4 arg5 harg5 arg6 harg6 arg7 harg7 arg8 harg8 arg9 harg9) K' := by
  unfold initProg owns
  rw [dif_pos hi]
  iintro ⟨⟨⟨%f1, %hf1, H1⟩, ⟨%f2, %hf2, H2⟩, ⟨%f4, %hf4, H4⟩, ⟨%d7, %f7, -, H7⟩, ⟨%d8, %f8, -, H8⟩, ⟨%d9, %f9, -, H9⟩⟩, Hk⟩
  subst hf1 hf2 hf4
  sl_exec
  sl_step
  iapply Hk
  isplitl [H1 H2 H4]
  · isplitl [H1]; · iexists _; isplitr; · ipureintro; rfl
                    iexact H1
    isplitl [H2]; · iexists _; isplitr; · ipureintro; rfl
                    iexact H2
    iexists _; isplitr; · ipureintro; rfl
    iexact H4
  isplitl [H7]
  · iexists _; isplitr
    swap; · iexact H7
    ipureintro
    exact pb_all c i arg1 harg1 arg2 harg2 arg3 harg3 arg4 harg4 arg5 harg5 arg6 harg6 arg7 harg7 arg8 harg8 arg9 harg9 hi f1 f7
  isplitl [H8]
  · iexists _; isplitr
    swap; · iexact H8
    ipureintro
    funext y
    exact View.read_writes_cons_unit_of_mem _ _ _ _ _ y y rfl (by intro a; fin_cases a <;> simp)
  iexists _; isplitr
  swap; · iexact H9
  ipureintro
  funext y
  exact View.read_writes_cons_unit_of_mem _ _ _ _ _ y y rfl (by intro a; fin_cases a <;> simp)

/-- At a later grid point it does nothing. -/
theorem init_later (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (hi : ¬ k0_cond1 i = 1#1) (P R : sProp 𝕄) (hPR : P ⊢ R) (K' : PUnit → sProp 𝕄) :
    iprop(P ∗ (R -∗ K' ⟨⟩)) ⊢ wp frame (wpE (defs₀ (F := F)) Variants.none c none) E (initProg (F := F) i arg1 harg1 arg2 harg2 arg3 harg3 arg4 harg4 arg5 harg5 arg6 harg6 arg7 harg7 arg8 harg8 arg9 harg9) K' := by
  unfold initProg
  rw [dif_neg hi]
  iintro ⟨Hp, Hk⟩
  sl_step
  iapply Hk
  iapply hPR
  iexact Hp

end Cert.Kernel.Hand

end
-- ==== Proof.KRun.lean ====
module

public import proofs.«01_k».proof.Proof.KBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What each grid point finds and leaves -/

section Run

variable (m : (ℓ : Loc nD τ sig) → Buf (Elt F) ℓ) (ρ : Dev nD → PrngReg)

/-- The scratch buffers at some contents. -/
def scratchAny (c : Dev nD) : sProp 𝕄 :=
  iprop((∃ d : Vec F S256x6144 .bf16, owns (c : Thread nD τ) (Memref.whole cc0_scratch0) fullShare d)
    ∗ (∃ d : Vec F S64x192 .bf16, owns (c : Thread nD τ) (Memref.whole cc0_scratch1) fullShare d)
    ∗ (∃ d : Vec F S256x128 .f32, owns (c : Thread nD τ) (Memref.whole cc0_scratch2) fullShare d))

/-- What the first scratch buffer holds from the first grid point on. -/
def sc7 (c : Dev nD) : Vec F S256x6144 .bf16 := wtOf (iblk m c 0 t0_0)
/-- What the second scratch buffer holds from the first grid point on. -/
def sc8 (c : Dev nD) : Vec F S64x192 .bf16 := r2tOf (iblk m c 3 t0_0)
/-- What the third scratch buffer holds from the first grid point on. -/
def sc9 (c : Dev nD) : Vec F S256x128 .f32 := wstOf (iblk m c 1 t0_0)

/-- The scratch buffers filled. -/
def scratchSet (c : Dev nD) : sProp 𝕄 :=
  iprop(owns (c : Thread nD τ) (Memref.whole cc0_scratch0) fullShare (sc7 m c)
    ∗ owns (c : Thread nD τ) (Memref.whole cc0_scratch1) fullShare (sc8 m c)
    ∗ owns (c : Thread nD τ) (Memref.whole cc0_scratch2) fullShare (sc9 m c))

/-- The rotated weights of grid point `t`. -/
def rot (c : Dev nD) (t : Fin cfg0.N) : FVec F S256x512 .f32 := wrot (iblk m c 2 t) (sc7 m c) (sc8 m c) (sc9 m c)

/-- The proof data: inputs keep their blocks, the outputs get the codes and the scales of the rotated weights; the scratch
    buffers hold anything before the first point and their filled contents after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5 (rot m c t)
    | ⟨5, _⟩ => out6 (rot m c t)
  Φ t := iprop((if t.val = 0 then scratchAny c else scratchSet m c) ∗ ∃ r, prngReg c r)
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t = iprop((if t.val = 0 then scratchAny c else scratchSet m c) ∗ ∃ r, prngReg c r) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out5 (rot m c t) := by dsimp only [dats]
theorem after0_5 (c : Dev nD) (t : Fin cfg0.N) : (dats m 0 c).after 5 t = out6 (rot m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body's first branch runs at grid point 0 and at no other. -/
theorem cond_iff : ∀ t : Fin grid0.N, k0_cond1 (grid0.coords t) = 1#1 ↔ t.val = 0 := by decide +kernel

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: at the first it fills the scratch buffers, at every point it leaves the codes and scales. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, Φ_eq, Φ_eq, if_neg (show ¬ (t.succ).val = 0 from by simp)]
  by_cases ht : t.val = 0
  · obtain rfl : t = t0_0 := Fin.ext ht
    rw [if_pos (show (Fin.castSucc (t0_0 : Fin cfg0.N)).val = 0 from rfl)]
    unfold scratchAny scratchSet
    iintro ⟨⟨⟨H7, H8, H9⟩, Hr⟩, Ho, ⟨%d0, H0⟩, ⟨%d1, H1⟩, ⟨%d2, H2⟩, ⟨%d3, H3⟩, ⟨%d4, H4⟩, ⟨%d5, H5⟩⟩
    iapply (sound_kernel c Set.univ _ _ _ _ _ _ _ _ _ _ _ _ _ _ _ _ _ _ _ (iblk m c 2 t0_0) (sc7 m c) (sc8 m c) (sc9 m c) _ _
      (init_first c Set.univ _ _ _ _ _ _ _ _ _ _ _ _ _ _ _ _ _ _ _ ((cond_iff t0_0).mpr rfl) (iblk m c 0 t0_0) (iblk m c 1 t0_0) (iblk m c 3 t0_0)) _)
    isplitl [H0 H1 H3 H7 H8 H9]
    · isplitl [H0]; · iexact H0
      isplitl [H1]; · iexact H1
      isplitl [H3]; · iexact H3
      isplitl [H7]; · iexact H7
      isplitl [H8]; · iexact H8
      iexact H9
    isplitl [H2]; · iexact H2
    isplitl [H4]; · iexists _; iexact H4
    isplitl [H5]; · iexists _; iexact H5
    iintro ⟨⟨H0, H1, H3⟩, H2, H4, H5, H7, H8, H9⟩
    isplitl [H7 H8 H9 Hr]
    · isplitr [Hr]
      · isplitl [H7]; · iexact H7
        isplitl [H8]; · iexact H8
        iexact H9
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ (Fin.castSucc t).val = 0 from ht)]
    unfold scratchSet
    iintro ⟨⟨⟨H7, H8, H9⟩, Hr⟩, Ho, ⟨%d0, H0⟩, ⟨%d1, H1⟩, ⟨%d2, H2⟩, ⟨%d3, H3⟩, ⟨%d4, H4⟩, ⟨%d5, H5⟩⟩
    iapply (sound_kernel c Set.univ _ _ _ _ _ _ _ _ _ _ _ _ _ _ _ _ _ _ _ (iblk m c 2 t) (sc7 m c) (sc8 m c) (sc9 m c) _ _
      (init_later c Set.univ _ _ _ _ _ _ _ _ _ _ _ _ _ _ _ _ _ _ _ (fun h => ht ((cond_iff t).mp h)) _
        iprop((owns (c : Thread nD τ) (st0_0 t) fullShare (iblk m c 0 t) ∗ owns (c : Thread nD τ) (st0_1 t) fullShare (iblk m c 1 t) ∗ owns (c : Thread nD τ) (st0_3 t) fullShare (iblk m c 3 t))
          ∗ owns (c : Thread nD τ) (Memref.whole cc0_scratch0) fullShare (sc7 m c)
          ∗ owns (c : Thread nD τ) (Memref.whole cc0_scratch1) fullShare (sc8 m c)
          ∗ owns (c : Thread nD τ) (Memref.whole cc0_scratch2) fullShare (sc9 m c)) .rfl) _)
    isplitl [H0 H1 H3 H7 H8 H9]
    · isplitl [H0 H1 H3]
      · isplitl [H0]; · iexact H0
        isplitl [H1]; · iexact H1
        iexact H3
      isplitl [H7]; · iexact H7
      isplitl [H8]; · iexact H8
      iexact H9
    isplitl [H2]; · iexact H2
    isplitl [H4]; · iexists _; iexact H4
    isplitl [H5]; · iexists _; iexact H5
    iintro ⟨⟨H0, H1, H3⟩, H2, H4, H5, H7, H8, H9⟩
    isplitl [H7 H8 H9 Hr]
    · isplitr [Hr]
      · isplitl [H7]; · iexact H7
        isplitl [H8]; · iexact H8
        iexact H9
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! Owning a whole scratch buffer is holding it at its contents. -/

theorem ownsIn0 (c : Dev nD) (f : Vec F S256x6144 .bf16) :
    ((c : Thread nD τ).loc cc0_scratch0 ↦{fullShare} f : sProp 𝕄) ⊢ owns (c : Thread nD τ) (Memref.whole cc0_scratch0) fullShare f := by
  rw [show (owns (c : Thread nD τ) (Memref.whole cc0_scratch0) fullShare f : sProp 𝕄) = _ from owns_whole (c : Thread nD τ) cc0_scratch0 fullShare f]
theorem ownsOut0 (c : Dev nD) (f : Vec F S256x6144 .bf16) :
    (owns (c : Thread nD τ) (Memref.whole cc0_scratch0) fullShare f : sProp 𝕄) ⊢ ((c : Thread nD τ).loc cc0_scratch0 ↦{fullShare} f) := by
  rw [show (owns (c : Thread nD τ) (Memref.whole cc0_scratch0) fullShare f : sProp 𝕄) = _ from owns_whole (c : Thread nD τ) cc0_scratch0 fullShare f]
theorem ownsIn1 (c : Dev nD) (f : Vec F S64x192 .bf16) :
    ((c : Thread nD τ).loc cc0_scratch1 ↦{fullShare} f : sProp 𝕄) ⊢ owns (c : Thread nD τ) (Memref.whole cc0_scratch1) fullShare f := by
  rw [show (owns (c : Thread nD τ) (Memref.whole cc0_scratch1) fullShare f : sProp 𝕄) = _ from owns_whole (c : Thread nD τ) cc0_scratch1 fullShare f]
theorem ownsOut1 (c : Dev nD) (f : Vec F S64x192 .bf16) :
    (owns (c : Thread nD τ) (Memref.whole cc0_scratch1) fullShare f : sProp 𝕄) ⊢ ((c : Thread nD τ).loc cc0_scratch1 ↦{fullShare} f) := by
  rw [show (owns (c : Thread nD τ) (Memref.whole cc0_scratch1) fullShare f : sProp 𝕄) = _ from owns_whole (c : Thread nD τ) cc0_scratch1 fullShare f]
theorem ownsIn2 (c : Dev nD) (f : Vec F S256x128 .f32) :
    ((c : Thread nD τ).loc cc0_scratch2 ↦{fullShare} f : sProp 𝕄) ⊢ owns (c : Thread nD τ) (Memref.whole cc0_scratch2) fullShare f := by
  rw [show (owns (c : Thread nD τ) (Memref.whole cc0_scratch2) fullShare f : sProp 𝕄) = _ from owns_whole (c : Thread nD τ) cc0_scratch2 fullShare f]
theorem ownsOut2 (c : Dev nD) (f : Vec F S256x128 .f32) :
    (owns (c : Thread nD τ) (Memref.whole cc0_scratch2) fullShare f : sProp 𝕄) ⊢ ((c : Thread nD τ).loc cc0_scratch2 ↦{fullShare} f) := by
  rw [show (owns (c : Thread nD τ) (Memref.whole cc0_scratch2) fullShare f : sProp 𝕄) = _ from owns_whole (c : Thread nD τ) cc0_scratch2 fullShare f]

/-- Before the first point the scratch buffers hold anything. -/
theorem hin (c : Dev nD) : Pipeline.ΦA (cfgs 0).spec c ⊢ (dats (F := F) m 0 c).Φ 0 := by
  rw [Φ_eq, if_pos (show ((0 : Fin (cfg0.N + 1))).val = 0 from rfl)]
  unfold Pipeline.ΦA scratchAny
  rw [show (cfgs 0).spec = spec0 from rfl, scopedRest0_eq]
  iintro ⟨⟨⟨%f7, H7⟩, ⟨%f8, H8⟩, ⟨%f9, H9⟩⟩, Hr⟩
  isplitr [Hr]
  · isplitl [H7]
    · iexists f7; iapply ownsIn0 c f7; iexact H7
    isplitl [H8]
    · iexists f8; iapply ownsIn1 c f8; iexact H8
    iexists f9; iapply ownsIn2 c f9; iexact H9
  iexact Hr

/-- After the last point they are handed back. -/
theorem hout (c : Dev nD) : (dats (F := F) m 0 c).Φ (Fin.last cfg0.N) ⊢ Pipeline.ΦA (cfgs 0).spec c := by
  rw [Φ_eq, if_neg (show ¬ (Fin.last cfg0.N).val = 0 from by decide +kernel)]
  unfold Pipeline.ΦA scratchSet
  rw [show (cfgs 0).spec = spec0 from rfl, scopedRest0_eq]
  iintro ⟨⟨H7, H8, H9⟩, Hr⟩
  isplitr [Hr]
  · isplitl [H7]
    · iexists (sc7 m c); iapply ownsOut0 c (sc7 m c); iexact H7
    isplitl [H8]
    · iexists (sc8 m c); iapply ownsOut1 c (sc8 m c); iexact H8
    iexists (sc9 m c); iapply ownsOut2 c (sc9 m c); iexact H9
  iexact Hr

/-! ## The run -/

set_option backward.isDefEq.respectTransparency.types false in
set_option maxHeartbeats 800000 in
/-- Every execution of @main ends, with every pipelined array at what the proof data computes, what the host lines after the
    region write, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends with the four argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: every execution ends, the argument arrays unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Run

end Cert.Kernel.Hand

end
-- ==== Proof.KIBody.lean ====
module

public import proofs.«01_k».proof.Proof.Gen.KernelIdeal.Frame
public import proofs.«01_k».proof.Proof.Gen.KernelIdeal.Loops
public import Idealize.ShloMosaic.Lib.WritesUnit
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes, named -/

/-- A block of 128 channels by 128 rows lies inside the rotated weights. -/
theorem blk_slices (g : Fin 4) (c : Fin 2) : S256x512.Slices ![128 * c.val, 128 * g.val] S128x128 := by
  revert g c; decide

/-- Group `g` (128 rows) and channel half `h` (128 channels) of the rotated weights, turned to rows by channels. -/
def blkT (v : FVec F S256x512 .f32) (g : Fin 4) (h : Fin 2) : FVec F S128x128 .f32 :=
  transpose S128x128 [1, 0] (extractStridedSlice S128x128 ![128 * h.val, 128 * g.val] v (blk_slices g h)) transposes_S128x128_p1_0_S128x128

/-- The scale of each column of one block: its largest magnitude over seven, one where that is zero. -/
def qscale (b : FVec F S128x128 .f32) : FVec F S1x128 .bf16 :=
  truncf .bf16 (select
    (cmpf .oeq (shapeCast S1x128 (multiReduction .maximumf [0] S128 (absf b) 0xFF800000#32 reduces_S128x128_S128 (.inl rfl) rfl) shapeCasts_S128_S1x128)
      (broadcast S1x128 (Scalar.ofBits .f32 0x00000000#32 : F .f32)))
    (broadcast S1x128 (Scalar.ofBits .f32 0x3F800000#32 : F .f32))
    (divf (shapeCast S1x128 (multiReduction .maximumf [0] S128 (absf b) 0xFF800000#32 reduces_S128x128_S128 (.inl rfl) rfl) shapeCasts_S128_S1x128)
      (broadcast S1x128 (Scalar.ofBits .f32 0x40E00000#32 : F .f32)))) bitsLt_bf16_f32

/-- The signed codes of one block: each entry over its column's scale, rounded, clipped to seven either way. -/
def qcodes (b : FVec F S128x128 .f32) : IVec S128x128 8 :=
  fptosi 8 (minimumf (broadcast S128x128 (Scalar.ofBits .f32 0x40E00000#32 : F .f32))
    (maximumf (broadcast S128x128 (Scalar.ofBits .f32 0xC0E00000#32 : F .f32))
      (roundeven (divf b (broadcastTo S128x128 (extf .f32 (qscale b) bitsLt_bf16_f32) broadcasts_S1x128_S128x128)))))

/-- The codes of one block, two rows to a byte: four rows of bytes read as one word, the odd rows' low halves moved beside the
    even rows' (masks 0x000F000F and 0x00F000F0), the two half-words cut to bytes. -/
def qpack (q : IVec S128x128 8) : IVec S64x128 8 :=
  trunci 8 (bitcast S64x128 16
    (ori (andi (bitcast S32x128 32 q bitcasts_S128x128_w8_S32x128_w32) (broadcast S32x128 983055#32))
      (andi (shrui (bitcast S32x128 32 q bitcasts_S128x128_w8_S32x128_w32) (broadcast S32x128 4#32)) (broadcast S32x128 15728880#32)))
    bitcasts_S32x128_w32_S64x128_w16) natLt_8_16

/-- One block's scales as the kernel stores them. -/
def srow (b : FVec F S128x128 .f32) : FVec F S1x1x128 .bf16 := shapeCast S1x1x128 (qscale b) shapeCasts_S1x128_S1x1x128

/-- Rows `256 k` to `256 k + 255` of the codes. -/
def rowsAt (x1 : Vec F S6144x256 .i8) (k : Fin 24) : Vec F S256x256 .i8 := fun i =>
  x1 (ix2 (⟨256 * k.val + (i 0).val, by have h : (i 0).val < 256 := (i 0).isLt; omega⟩ : Fin 6144) (i 1 : Fin 256))

/-- The transposed, cast codes the kernel keeps from its first grid point on. -/
def wtOf (x1 : Vec F S6144x256 .i8) : Vec F S256x6144 .bf16 := fun j =>
  k0_pay3 (rowsAt x1 ⟨(j 1).val / 256, by have h : (j 1).val < 6144 := (j 1).isLt; omega⟩)
    (ix2 (j 0 : Fin 256) (⟨(j 1).val % 256, Nat.mod_lt _ (by decide)⟩ : Fin 256))

/-- The rotation matrix, transposed, three times side by side, kept from the first grid point on. -/
def r2tOf (x4 : Vec F S64x64 .bf16) : Vec F S64x192 .bf16 :=
  k0_pay4 (View.ld x4 (Rect.unit (s := S64x64) ![0, 0] S64x64.size inb_S64x64_S64x64_0_0))

/-- The channel scales as a column repeated over 128 lanes, kept from the first grid point on. -/
def wstOf (x2 : Vec F S1x256 .f32) : Vec F S256x128 .f32 :=
  k0_pay5 (View.ld x2 (Rect.unit (s := S1x256) ![0, 0] S1x256.size inb_S1x256_S1x256_0_0))

/-- The rotated weights, channels by rows, of one grid point from what the scratch buffers hold. -/
def wrot (x3 : Vec F S6144x512 .bf16) (x7 : Vec F S256x6144 .bf16) (x8 : Vec F S64x192 .bf16) (x9 : Vec F S256x128 .f32) : FVec F S256x512 .f32 :=
  k0_pay11 (k0_pay6 (View.ld x7 (Rect.unit (s := S256x6144) ![0, 0] S256x6144.size inb_S256x6144_S256x6144_0_0)) (View.ld x3 (Rect.unit (s := S6144x512) ![0, 0] S6144x512.size inb_S6144x512_S6144x512_0_0)))
    (k0_pay7 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![0, 0] S64x128.size inb_S256x128_S64x128_0_0)) (View.ld x8 (Rect.unit (s := S64x192) ![0, 0] S64x192.size inb_S64x192_S64x192_0_0)))
    (k0_pay8 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![64, 0] S64x128.size inb_S256x128_S64x128_64_0)) (View.ld x8 (Rect.unit (s := S64x192) ![0, 0] S64x192.size inb_S64x192_S64x192_0_0)))
    (k0_pay9 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![128, 0] S64x128.size inb_S256x128_S64x128_128_0)))
    (k0_pay10 (View.ld x7 (Rect.unit (s := S256x6144) ![0, 0] S256x6144.size inb_S256x6144_S256x6144_0_0)) (View.ld x3 (Rect.unit (s := S6144x512) ![0, 0] S6144x512.size inb_S6144x512_S6144x512_0_0)) (View.ld x9 (Rect.unit (s := S256x128) ![128, 0] S64x128.size inb_S256x128_S64x128_128_0)))
    (View.ld x8 (Rect.unit (s := S64x192) ![0, 0] S64x192.size inb_S64x192_S64x192_0_0)) (View.ld x9 (Rect.unit (s := S256x128) ![192, 0] S64x128.size inb_S256x128_S64x128_192_0)) (View.ld x8 (Rect.unit (s := S64x192) ![0, 0] S64x192.size inb_S64x192_S64x192_0_0))

/-- The eight tiles of packed codes one grid point stores, last first, over the packed codes of each block. -/
def codePieces (p : Fin 4 → Fin 2 → S64x128.Idx → Elt F .i8) : List (View.Piece (Elt F) S256x256 .i8) :=
  [⟨Rect.unit (s := S256x256) ![192, 128] S64x128.size inb_S256x256_S64x128_192_128, p 3 1⟩,
   ⟨Rect.unit (s := S256x256) ![192, 0] S64x128.size inb_S256x256_S64x128_192_0, p 3 0⟩,
   ⟨Rect.unit (s := S256x256) ![128, 128] S64x128.size inb_S256x256_S64x128_128_128, p 2 1⟩,
   ⟨Rect.unit (s := S256x256) ![128, 0] S64x128.size inb_S256x256_S64x128_128_0, p 2 0⟩,
   ⟨Rect.unit (s := S256x256) ![64, 128] S64x128.size inb_S256x256_S64x128_64_128, p 1 1⟩,
   ⟨Rect.unit (s := S256x256) ![64, 0] S64x128.size inb_S256x256_S64x128_64_0, p 1 0⟩,
   ⟨Rect.unit (s := S256x256) ![0, 128] S64x128.size inb_S256x256_S64x128_0_128, p 0 1⟩,
   ⟨Rect.unit (s := S256x256) ![0, 0] S64x128.size inb_S256x256_S64x128_0_0, p 0 0⟩]

/-- The block of packed codes assembled from its eight tiles: row `r`, column `c` is row `r % 64`, column `c % 128` of the tile
    of group `r / 64` and half `c / 128`. -/
def codeTile (p : Fin 4 → Fin 2 → S64x128.Idx → Elt F .i8) : Vec F S256x256 .i8 := fun y =>
  p ⟨(y 0).val / 64, by have h : (y 0).val < 256 := (y 0).isLt; omega⟩
    ⟨(y 1).val / 128, by have h : (y 1).val < 256 := (y 1).isLt; omega⟩
    (ix2 (⟨(y 0).val % 64, Nat.mod_lt _ (by decide)⟩ : Fin 64) (⟨(y 1).val % 128, Nat.mod_lt _ (by decide)⟩ : Fin 128))

/-- The block of scales assembled from its eight rows. -/
def scaleTile (p : Fin 4 → Fin 2 → S1x1x128.Idx → Elt F .bf16) : Vec F S1x4x256 .bf16 := fun y =>
  p (y 1) ⟨(y 2).val / 128, by have h : (y 2).val < 256 := (y 2).isLt; omega⟩
    (ix3 (0 : Fin 1) (0 : Fin 1) (⟨(y 2).val % 128, Nat.mod_lt _ (by decide)⟩ : Fin 128))

/-- The codes one grid point leaves, from its rotated weights. -/
def out5 (v : FVec F S256x512 .f32) : Vec F S256x256 .i8 := codeTile fun g h => qpack (qcodes (blkT v g h))

/-- The scales one grid point leaves, from its rotated weights. -/
def out6 (v : FVec F S256x512 .f32) : Vec F S1x4x256 .bf16 := scaleTile fun g h => srow (blkT v g h)

/-! ## The stored values are the named ones -/

section Payloads

variable (v5 : FVec F S256x512 .f32) (v19 v33 v37 : FVec F S64x512 .f32) (v38 : FVec F S64x512 .bf16) (v46 v60 : Vec F S64x192 .bf16) (v48 : Vec F S64x128 .f32) (v : FVec F S256x512 .f32)

theorem blk00 : k0_pay12 v5 v19 v33 v37 v38 v46 v48 v60 = blkT (k0_pay11 v5 v19 v33 v37 v38 v46 v48 v60) 0 0 := rfl
theorem blk01 : k0_pay17 v = blkT v 0 1 := rfl
theorem blk10 : k0_pay24 v = blkT v 1 0 := rfl
theorem blk11 : k0_pay28 v = blkT v 1 1 := rfl
theorem blk20 : k0_pay32 v = blkT v 2 0 := rfl
theorem blk21 : k0_pay37 v = blkT v 2 1 := rfl
theorem blk30 : k0_pay44 v = blkT v 3 0 := rfl
theorem blk31 : k0_pay49 v = blkT v 3 1 := rfl

theorem scale00 : k0_pay13 v5 v19 v33 v37 v38 v46 v48 v60 = qscale (blkT (k0_pay11 v5 v19 v33 v37 v38 v46 v48 v60) 0 0) := by
  unfold k0_pay13; rw [blk00]; rfl
theorem scale01 : k0_pay18 v = qscale (blkT v 0 1) := by unfold k0_pay18; rw [blk01]; rfl
theorem scale10 : k0_pay25 v = qscale (blkT v 1 0) := by unfold k0_pay25; rw [blk10]; rfl
theorem scale11 : k0_pay29 v = qscale (blkT v 1 1) := by unfold k0_pay29; rw [blk11]; rfl
theorem scale20 : k0_pay34 (k0_pay33 v) = qscale (blkT v 2 0) := by unfold k0_pay34 k0_pay33; rw [blk20]; rfl
theorem scale21 : k0_pay41 (k0_pay39 v) (k0_pay40 v) (Scalar.ofBits .f32 0x3F800000#32 : F .f32) = qscale (blkT v 2 1) := by
  unfold k0_pay41 k0_pay39 k0_pay40 k0_pay38; rw [blk21]; rfl
theorem scale30 : k0_pay45 v = qscale (blkT v 3 0) := by unfold k0_pay45; rw [blk30]; rfl
theorem scale31 : k0_pay50 v = qscale (blkT v 3 1) := by unfold k0_pay50; rw [blk31]; rfl

theorem code00 : k0_pay15 (k0_pay14 v5 v19 v33 v37 v38 v46 v48 v60) = qpack (qcodes (blkT (k0_pay11 v5 v19 v33 v37 v38 v46 v48 v60) 0 0)) := by
  unfold k0_pay15 k0_pay14; rw [scale00, blk00]; rfl
theorem code01 : k0_pay22 (k0_pay20 v) (k0_pay21 v) = qpack (qcodes (blkT v 0 1)) := by
  unfold k0_pay22 k0_pay20 k0_pay21 k0_pay19; rw [scale01, blk01]; rfl
theorem code10 : k0_pay26 v = qpack (qcodes (blkT v 1 0)) := by unfold k0_pay26; rw [scale10, blk10]; rfl
theorem code11 : k0_pay30 v = qpack (qcodes (blkT v 1 1)) := by unfold k0_pay30; rw [scale11, blk11]; rfl
theorem code20 : k0_pay35 (k0_pay32 v) (k0_pay33 v) = qpack (qcodes (blkT v 2 0)) := by unfold k0_pay35; rw [scale20, blk20]; rfl
theorem code21 : k0_pay42 (k0_pay37 v) (k0_pay39 v) (k0_pay40 v) (Scalar.ofBits .f32 0x3F800000#32 : F .f32) = qpack (qcodes (blkT v 2 1)) := by
  unfold k0_pay42; rw [scale21, blk21]; rfl
theorem code30 : k0_pay47 (k0_pay46 v) (Scalar.ofBits .f32 0xC0E00000#32 : F .f32) (Scalar.ofBits .f32 0x40E00000#32 : F .f32) = qpack (qcodes (blkT v 3 0)) := by
  unfold k0_pay47 k0_pay46; rw [scale30, blk30]; rfl
theorem code31 : k0_pay1 (k0_pay51 v) (k0_pay52 v) = qpack (qcodes (blkT v 3 1)) := by
  unfold k0_pay1 k0_pay52 k0_pay51; rw [scale31, blk31]; rfl

theorem row00 : k0_pay16 (k0_pay13 v5 v19 v33 v37 v38 v46 v48 v60) = srow (blkT (k0_pay11 v5 v19 v33 v37 v38 v46 v48 v60) 0 0) := by
  rw [scale00]; rfl
theorem row01 : k0_pay23 (k0_pay18 v) = srow (blkT v 0 1) := by rw [scale01]; rfl
theorem row10 : k0_pay27 (k0_pay25 v) = srow (blkT v 1 0) := by rw [scale10]; rfl
theorem row11 : k0_pay31 v = srow (blkT v 1 1) := by unfold k0_pay31; rw [scale11]; rfl
theorem row20 : k0_pay36 (k0_pay33 v) = srow (blkT v 2 0) := by unfold k0_pay36; rw [scale20]; rfl
theorem row21 : k0_pay43 (k0_pay39 v) (k0_pay40 v) (Scalar.ofBits .f32 0x3F800000#32 : F .f32) = srow (blkT v 2 1) := by
  unfold k0_pay43; rw [scale21]; rfl
theorem row30 : k0_pay48 (k0_pay45 v) = srow (blkT v 3 0) := by rw [scale30]; rfl
theorem row31 : k0_pay2 (k0_pay50 v) = srow (blkT v 3 1) := by rw [scale31]; rfl

end Payloads

/-! ## What a list of stores leaves -/

section Reads

variable (v : View sig .tc .vmem S1x4x256 .bf16) (f : v.ty.Contents (Elt F))

/-- A store of one row of scales through the pair of rows holding it: at the row itself, the stored row. -/
theorem sub_hit (r0 c0 j : ℕ) (hj : j < 2) (inb : ∀ a, (![0, r0, c0] : Fin 3 → ℕ) a + S1x2x128.size a ≤ S1x4x256.size a) (hs)
    (old : S1x2x128.Idx → Elt F .bf16) (p : S1x1x128.Idx → Elt F .bf16) (L : List (View.Piece (Elt F) S1x4x256 .bf16)) (y : S1x4x256.Idx)
    (h1 : (y 1).val = r0 + j) (h2 : c0 ≤ (y 2).val) (h3 : (y 2).val < c0 + 128) :
    v.read (Elt F) (v.writes (Elt F) f (⟨Rect.unit (s := S1x4x256) ![0, r0, c0] S1x2x128.size inb, updateSlice old p ![0, j, 0] hs⟩ :: L)) y
      = p (ix3 (0 : Fin 1) (0 : Fin 1) (⟨(y 2).val - c0, by omega⟩ : Fin 128)) := by
  have hy0 : (y 0).val = 0 := by have : (y 0).val < 1 := (y 0).isLt; omega
  rw [View.read_writes_cons_unit_of_mem v f inb _ L y (ix3 (0 : Fin 1) (⟨j, hj⟩ : Fin 2) (⟨(y 2).val - c0, by omega⟩ : Fin 128)) rfl (by
    intro a; fin_cases a
    · simpa using hy0
    · simpa using h1
    · simp; omega)]
  unfold updateSlice
  rw [dif_pos (by
    intro a; fin_cases a
    · simp
    · simp
    · simp; omega)]
  congr 1
  funext a; fin_cases a <;> apply Fin.ext <;> simp

/-- The same store at the other row of the pair: what was loaded there. -/
theorem sub_old (r0 c0 j k : ℕ) (hj : j < 2) (hk : k < 2) (hjk : k ≠ j) (inb : ∀ a, (![0, r0, c0] : Fin 3 → ℕ) a + S1x2x128.size a ≤ S1x4x256.size a) (hs)
    (old : S1x2x128.Idx → Elt F .bf16) (p : S1x1x128.Idx → Elt F .bf16) (L : List (View.Piece (Elt F) S1x4x256 .bf16)) (y : S1x4x256.Idx)
    (h1 : (y 1).val = r0 + k) (h2 : c0 ≤ (y 2).val) (h3 : (y 2).val < c0 + 128) :
    v.read (Elt F) (v.writes (Elt F) f (⟨Rect.unit (s := S1x4x256) ![0, r0, c0] S1x2x128.size inb, updateSlice old p ![0, j, 0] hs⟩ :: L)) y
      = old (ix3 (0 : Fin 1) (⟨k, hk⟩ : Fin 2) (⟨(y 2).val - c0, by omega⟩ : Fin 128)) := by
  have hy0 : (y 0).val = 0 := by have : (y 0).val < 1 := (y 0).isLt; omega
  rw [View.read_writes_cons_unit_of_mem v f inb _ L y (ix3 (0 : Fin 1) (⟨k, hk⟩ : Fin 2) (⟨(y 2).val - c0, by omega⟩ : Fin 128)) rfl (by
    intro a; fin_cases a
    · simpa using hy0
    · simpa using h1
    · simp; omega)]
  unfold updateSlice
  rw [dif_neg (by
    intro hall
    have := hall 1
    simp at this
    omega)]

/-- The same store elsewhere: what the earlier stores left. -/
theorem sub_miss (r0 c0 : ℕ) (inb : ∀ a, (![0, r0, c0] : Fin 3 → ℕ) a + S1x2x128.size a ≤ S1x4x256.size a)
    (w : S1x2x128.Idx → Elt F .bf16) (L : List (View.Piece (Elt F) S1x4x256 .bf16)) (y : S1x4x256.Idx)
    (h : (y 1).val < r0 ∨ r0 + 2 ≤ (y 1).val ∨ (y 2).val < c0 ∨ c0 + 128 ≤ (y 2).val) :
    v.read (Elt F) (v.writes (Elt F) f (⟨Rect.unit (s := S1x4x256) ![0, r0, c0] S1x2x128.size inb, w⟩ :: L)) y
      = v.read (Elt F) (v.writes (Elt F) f L) y := by
  rcases h with h | h | h | h
  · exact View.read_writes_cons_unit_of_not_mem v f inb w L y rfl 1 (.inl (by simpa using h))
  · exact View.read_writes_cons_unit_of_not_mem v f inb w L y rfl 1 (.inr (by simpa using h))
  · exact View.read_writes_cons_unit_of_not_mem v f inb w L y rfl 2 (.inl (by simpa using h))
  · exact View.read_writes_cons_unit_of_not_mem v f inb w L y rfl 2 (.inr (by simpa using h))

end Reads

section Codes

variable (v : View sig .tc .vmem S256x256 .i8) (f : v.ty.Contents (Elt F)) (p : Fin 4 → Fin 2 → S64x128.Idx → Elt F .i8)

/-- A tile of codes just stored reads as itself. -/
theorem code_hit (g : Fin 4) (h : Fin 2) (r0 c0 : ℕ) (hg : r0 = 64 * g.val) (hc : c0 = 128 * h.val)
    (inb : ∀ a, (![r0, c0] : Fin 2 → ℕ) a + S64x128.size a ≤ S256x256.size a) (L : List (View.Piece (Elt F) S256x256 .i8)) (y : S256x256.Idx)
    (h1 : (y 0).val / 64 = g.val) (h2 : (y 1).val / 128 = h.val) :
    v.read (Elt F) (v.writes (Elt F) f (⟨Rect.unit (s := S256x256) ![r0, c0] S64x128.size inb, p g h⟩ :: L)) y = codeTile p y := by
  rw [View.read_writes_cons_unit_of_mem v f inb _ L y (ix2 (⟨(y 0).val % 64, Nat.mod_lt _ (by decide)⟩ : Fin 64) (⟨(y 1).val % 128, Nat.mod_lt _ (by decide)⟩ : Fin 128)) rfl (by
    intro a; fin_cases a
    · simp [ix2]; omega
    · simp [ix2]; omega)]
  unfold codeTile
  obtain ⟨gv, hg'⟩ := g; obtain ⟨hv, hh⟩ := h
  simp only at h1 h2
  simp only [h1, h2]

/-- Elsewhere it leaves what the earlier stores left. -/
theorem code_miss (r0 c0 : ℕ)
    (inb : ∀ a, (![r0, c0] : Fin 2 → ℕ) a + S64x128.size a ≤ S256x256.size a) (w : S64x128.Idx → Elt F .i8) (L : List (View.Piece (Elt F) S256x256 .i8)) (y : S256x256.Idx)
    (h : (y 0).val < r0 ∨ r0 + 64 ≤ (y 0).val ∨ (y 1).val < c0 ∨ c0 + 128 ≤ (y 1).val) :
    v.read (Elt F) (v.writes (Elt F) f (⟨Rect.unit (s := S256x256) ![r0, c0] S64x128.size inb, w⟩ :: L)) y = v.read (Elt F) (v.writes (Elt F) f L) y := by
  rcases h with h | h | h | h
  · exact View.read_writes_cons_unit_of_not_mem v f inb w L y rfl 0 (.inl (by simpa using h))
  · exact View.read_writes_cons_unit_of_not_mem v f inb w L y rfl 0 (.inr (by simpa using h))
  · exact View.read_writes_cons_unit_of_not_mem v f inb w L y rfl 1 (.inl (by simpa using h))
  · exact View.read_writes_cons_unit_of_not_mem v f inb w L y rfl 1 (.inr (by simpa using h))

/-- Reading the eight tiles of codes gives the assembled block. -/
theorem read_codePieces : v.read (Elt F) (v.writes (Elt F) f (codePieces p)) = codeTile p := by
  funext y
  have h0 : (y 0).val < 256 := (y 0).isLt
  have h1 : (y 1).val < 256 := (y 1).isLt
  unfold codePieces
  by_cases a31 : 192 ≤ (y 0).val ∧ 128 ≤ (y 1).val
  · exact code_hit v f p 3 1 192 128 rfl rfl _ _ y (by simp; omega) (by simp; omega)
  rw [code_miss v f 192 128 _ _ _ y (by omega)]
  by_cases a30 : 192 ≤ (y 0).val
  · exact code_hit v f p 3 0 192 0 rfl rfl _ _ y (by simp; omega) (by simp; omega)
  rw [code_miss v f 192 0 _ _ _ y (by omega)]
  by_cases a21 : 128 ≤ (y 0).val ∧ 128 ≤ (y 1).val
  · exact code_hit v f p 2 1 128 128 rfl rfl _ _ y (by simp; omega) (by simp; omega)
  rw [code_miss v f 128 128 _ _ _ y (by omega)]
  by_cases a20 : 128 ≤ (y 0).val
  · exact code_hit v f p 2 0 128 0 rfl rfl _ _ y (by simp; omega) (by simp; omega)
  rw [code_miss v f 128 0 _ _ _ y (by omega)]
  by_cases a11 : 64 ≤ (y 0).val ∧ 128 ≤ (y 1).val
  · exact code_hit v f p 1 1 64 128 rfl rfl _ _ y (by simp; omega) (by simp; omega)
  rw [code_miss v f 64 128 _ _ _ y (by omega)]
  by_cases a10 : 64 ≤ (y 0).val
  · exact code_hit v f p 1 0 64 0 rfl rfl _ _ y (by simp; omega) (by simp; omega)
  rw [code_miss v f 64 0 _ _ _ y (by omega)]
  by_cases a01 : 128 ≤ (y 1).val
  · exact code_hit v f p 0 1 0 128 rfl rfl _ _ y (by simp; omega) (by simp; omega)
  rw [code_miss v f 0 128 _ _ _ y (by omega)]
  exact code_hit v f p 0 0 0 0 rfl rfl _ _ y (by simp; omega) (by simp; omega)

end Codes

section Scales

variable (v : View sig .tc .vmem S1x4x256 .bf16)

/-- The first pair of rows of scales, row by row and half by half, last store first. -/
def scale2 (o : Fin 2 → S1x2x128.Idx → Elt F .bf16) (p : Fin 4 → Fin 2 → S1x1x128.Idx → Elt F .bf16) : List (View.Piece (Elt F) S1x4x256 .bf16) :=
  [⟨Rect.unit (s := S1x4x256) ![0, 0, 128] S1x2x128.size inb_S1x4x256_S1x2x128_0_0_128, updateSlice (o 1) (p 0 1) ![0, 0, 0] slices_S1x2x128_S1x1x128_0_0_0⟩,
   ⟨Rect.unit (s := S1x4x256) ![0, 0, 0] S1x2x128.size inb_S1x4x256_S1x2x128_0_0_0, updateSlice (o 0) (p 0 0) ![0, 0, 0] slices_S1x2x128_S1x1x128_0_0_0⟩]

/-- One more store of scales: row 1, first half. -/
def scale3 (o : Fin 2 → S1x2x128.Idx → Elt F .bf16) (p : Fin 4 → Fin 2 → S1x1x128.Idx → Elt F .bf16) : List (View.Piece (Elt F) S1x4x256 .bf16) :=
  ⟨Rect.unit (s := S1x4x256) ![0, 0, 0] S1x2x128.size inb_S1x4x256_S1x2x128_0_0_0,
    updateSlice (v.readCov (scale2 o p) (Rect.unit (s := S1x4x256) ![0, 0, 0] S1x2x128.size inb_S1x4x256_S1x2x128_0_0_0).toLoadRect) (p 1 0) ![0, 1, 0] slices_S1x2x128_S1x1x128_0_1_0⟩ :: scale2 o p

/-- One more store of scales: row 1, second half. -/
def scale4 (o : Fin 2 → S1x2x128.Idx → Elt F .bf16) (p : Fin 4 → Fin 2 → S1x1x128.Idx → Elt F .bf16) : List (View.Piece (Elt F) S1x4x256 .bf16) :=
  ⟨Rect.unit (s := S1x4x256) ![0, 0, 128] S1x2x128.size inb_S1x4x256_S1x2x128_0_0_128,
    updateSlice (v.readCov (scale3 v o p) (Rect.unit (s := S1x4x256) ![0, 0, 128] S1x2x128.size inb_S1x4x256_S1x2x128_0_0_128).toLoadRect) (p 1 1) ![0, 1, 0] slices_S1x2x128_S1x1x128_0_1_0⟩ :: scale3 v o p

/-- Two more stores of scales: row 2, both halves. -/
def scale6 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 128] S1x2x128.size inb_S1x4x256_S1x2x128_0_2_128, updateSlice (o' 1) (p 2 1) ![0, 0, 0] slices_S1x2x128_S1x1x128_0_0_0⟩ ::
  ⟨Rect.unit (s := S1x4x256) ![0, 2, 0] S1x2x128.size inb_S1x4x256_S1x2x128_0_2_0, updateSlice (o' 0) (p 2 0) ![0, 0, 0] slices_S1x2x128_S1x1x128_0_0_0⟩ :: scale4 v o p

/-- One more store of scales: row 3, first half. -/
def scale7 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 0] S1x2x128.size inb_S1x4x256_S1x2x128_0_2_0,
    updateSlice (v.readCov (scale6 v o o' p) (Rect.unit (s := S1x4x256) ![0, 2, 0] S1x2x128.size inb_S1x4x256_S1x2x128_0_2_0).toLoadRect) (p 3 0) ![0, 1, 0] slices_S1x2x128_S1x1x128_0_1_0⟩ :: scale6 v o o' p

/-- All eight stores of scales. -/
def scale8 (o o' : Fin 2 → S1x2x128.Idx → Elt F .bf16) (p : Fin 4 → Fin 2 → S1x1x128.Idx → Elt F .bf16) : List (View.Piece (Elt F) S1x4x256 .bf16) :=
  ⟨Rect.unit (s := S1x4x256) ![0, 2, 128] S1x2x128.size inb_S1x4x256_S1x2x128_0_2_128,
    updateSlice (v.readCov (scale7 v o o' p) (Rect.unit (s := S1x4x256) ![0, 2, 128] S1x2x128.size inb_S1x4x256_S1x2x128_0_2_128).toLoadRect) (p 3 1) ![0, 1, 0] slices_S1x2x128_S1x1x128_0_1_0⟩ :: scale7 v o o' p

variable (o o' : Fin 2 → S1x2x128.Idx → Elt F .bf16) (p : Fin 4 → Fin 2 → S1x1x128.Idx → Elt F .bf16)

/-- A scale read from the assembled block. -/
theorem scaleTile_at (y : S1x4x256.Idx) (g : Fin 4) (h : Fin 2) (l : Fin 128) (h1 : (y 1).val = g.val) (h2 : (y 2).val = 128 * h.val + l.val) :
    scaleTile p y = p g h (ix3 (0 : Fin 1) (0 : Fin 1) l) := by
  unfold scaleTile
  obtain ⟨gv, hg⟩ := g; obtain ⟨hv, hh⟩ := h; obtain ⟨lv, hl⟩ := l
  have e1 : (y 1 : Fin 4) = ⟨gv, hg⟩ := Fin.ext h1
  have e2 : (y 2).val / 128 = hv := by simp at h2; omega
  have e3 : (y 2).val % 128 = lv := by simp at h2; omega
  have e4 : (⟨(y 2).val / 128, by have h : (y 2).val < 256 := (y 2).isLt; omega⟩ : Fin 2) = ⟨hv, hh⟩ := Fin.ext e2
  have e5 : (⟨(y 2).val % 128, Nat.mod_lt _ (by decide)⟩ : Fin 128) = ⟨lv, hl⟩ := Fin.ext e3
  rw [e4, e5]
  exact congrArg (fun t => p t _ _) e1

/-- A row just stored reads as its scales. -/
theorem sub_new (f : v.ty.Contents (Elt F)) (g : Fin 4) (h : Fin 2) (r0 c0 j : ℕ) (hj : j < 2) (hg : g.val = r0 + j) (hc : c0 = 128 * h.val)
    (inb : ∀ a, (![0, r0, c0] : Fin 3 → ℕ) a + S1x2x128.size a ≤ S1x4x256.size a) (hs)
    (old : S1x2x128.Idx → Elt F .bf16) (L : List (View.Piece (Elt F) S1x4x256 .bf16)) (y : S1x4x256.Idx)
    (h1 : (y 1).val = g.val) (h2 : c0 ≤ (y 2).val ∧ (y 2).val < c0 + 128) :
    v.read (Elt F) (v.writes (Elt F) f (⟨Rect.unit (s := S1x4x256) ![0, r0, c0] S1x2x128.size inb, updateSlice old (p g h) ![0, j, 0] hs⟩ :: L)) y
      = scaleTile p y := by
  rw [sub_hit v f r0 c0 j hj inb hs old (p g h) L y (by omega) h2.1 h2.2]
  exact (scaleTile_at p y g h _ h1 (by simp; omega)).symm

/-- The other row of the pair reads as what was loaded there, its scales where it already held them. -/
theorem sub_kept (f : v.ty.Contents (Elt F)) (r0 c0 j k : ℕ) (hj : j < 2) (hk : k < 2) (hjk : k ≠ j)
    (inb : ∀ a, (![0, r0, c0] : Fin 3 → ℕ) a + S1x2x128.size a ≤ S1x4x256.size a) (hs)
    (q : S1x1x128.Idx → Elt F .bf16) (L L' : List (View.Piece (Elt F) S1x4x256 .bf16)) (y : S1x4x256.Idx)
    (h1 : (y 1).val = r0 + k) (h2 : c0 ≤ (y 2).val ∧ (y 2).val < c0 + 128)
    (hL : v.read (Elt F) (v.writes (Elt F) v.junk L') y = scaleTile p y) :
    v.read (Elt F) (v.writes (Elt F) f (⟨Rect.unit (s := S1x4x256) ![0, r0, c0] S1x2x128.size inb,
        updateSlice (v.readCov L' (Rect.unit (s := S1x4x256) ![0, r0, c0] S1x2x128.size inb).toLoadRect) q ![0, j, 0] hs⟩ :: L)) y
      = scaleTile p y := by
  rw [sub_old v f r0 c0 j k hj hk hjk inb hs _ q L y h1 h2.1 h2.2]
  unfold View.readCov
  rw [View.readAt_apply, ← hL]
  have hy0 : (y 0).val = 0 := by have : (y 0).val < 1 := (y 0).isLt; omega
  congr 1
  funext a; apply Fin.ext; fin_cases a
  · simp [LoadRect.idx, Rect.toLoadRect, Rect.unit, hy0]
  · simp [LoadRect.idx, Rect.toLoadRect, Rect.unit, ix3]; omega
  · simp [LoadRect.idx, Rect.toLoadRect, Rect.unit, ix3]; omega

/-- After the first two stores row 0 holds its scales. -/
theorem read_scale2 (f : v.ty.Contents (Elt F)) (y : S1x4x256.Idx) (h : (y 1).val = 0) :
    v.read (Elt F) (v.writes (Elt F) f (scale2 o p)) y = scaleTile p y := by
  have hy2 : (y 2).val < 256 := (y 2).isLt
  unfold scale2
  by_cases h2 : (y 2).val < 128
  · rw [sub_miss v f 0 128 _ _ _ y (by omega)]
    exact sub_new v p f 0 0 0 0 0 (by omega) rfl rfl _ _ _ _ y h (by omega)
  · exact sub_new v p f 0 1 0 128 0 (by omega) rfl rfl _ _ _ _ y h (by omega)

/-- After the third, also the first half of row 1. -/
theorem read_scale3 (f : v.ty.Contents (Elt F)) (y : S1x4x256.Idx) (h : (y 1).val = 0 ∨ ((y 1).val = 1 ∧ (y 2).val < 128)) :
    v.read (Elt F) (v.writes (Elt F) f (scale3 v o p)) y = scaleTile p y := by
  have hy2 : (y 2).val < 256 := (y 2).isLt
  unfold scale3
  by_cases h2 : (y 2).val < 128
  · by_cases h1 : (y 1).val = 0
    · exact sub_kept v p f 0 0 1 0 (by omega) (by omega) (by omega) _ _ _ _ _ y (by omega) (by omega) (read_scale2 v o p _ y h1)
    · exact sub_new v p f 1 0 0 0 1 (by omega) rfl rfl _ _ _ _ y (by simp; omega) (by omega)
  · rw [sub_miss v f 0 0 _ _ _ y (by omega)]
    exact read_scale2 v o p f y (by omega)

/-- After the fourth, rows 0 and 1. -/
theorem read_scale4 (f : v.ty.Contents (Elt F)) (y : S1x4x256.Idx) (h : (y 1).val < 2) :
    v.read (Elt F) (v.writes (Elt F) f (scale4 v o p)) y = scaleTile p y := by
  have hy2 : (y 2).val < 256 := (y 2).isLt
  unfold scale4
  by_cases h2 : (y 2).val < 128
  · rw [sub_miss v f 0 128 _ _ _ y (by omega)]
    exact read_scale3 v o p f y (by omega)
  · by_cases h1 : (y 1).val = 0
    · exact sub_kept v p f 0 128 1 0 (by omega) (by omega) (by omega) _ _ _ _ _ y (by omega) (by omega) (read_scale3 v o p _ y (by omega))
    · exact sub_new v p f 1 1 0 128 1 (by omega) rfl rfl _ _ _ _ y (by simp; omega) (by omega)

/-- After the sixth, rows 0 to 2. -/
theorem read_scale6 (f : v.ty.Contents (Elt F)) (y : S1x4x256.Idx) (h : (y 1).val < 3) :
    v.read (Elt F) (v.writes (Elt F) f (scale6 v o o' p)) y = scaleTile p y := by
  have hy2 : (y 2).val < 256 := (y 2).isLt
  unfold scale6
  by_cases h1 : (y 1).val < 2
  · rw [sub_miss v f 2 128 _ _ _ y (by omega), sub_miss v f 2 0 _ _ _ y (by omega)]
    exact read_scale4 v o p f y h1
  · by_cases h2 : (y 2).val < 128
    · rw [sub_miss v f 2 128 _ _ _ y (by omega)]
      exact sub_new v p f 2 0 2 0 0 (by omega) rfl rfl _ _ _ _ y (by simp; omega) (by omega)
    · exact sub_new v p f 2 1 2 128 0 (by omega) rfl rfl _ _ _ _ y (by simp; omega) (by omega)

/-- After the seventh, also the first half of row 3. -/
theorem read_scale7 (f : v.ty.Contents (Elt F)) (y : S1x4x256.Idx) (h : (y 1).val < 3 ∨ (y 2).val < 128) :
    v.read (Elt F) (v.writes (Elt F) f (scale7 v o o' p)) y = scaleTile p y := by
  have hy2 : (y 2).val < 256 := (y 2).isLt
  have hy1 : (y 1).val < 4 := (y 1).isLt
  unfold scale7
  by_cases hm : (y 1).val < 2 ∨ 128 ≤ (y 2).val
  · rw [sub_miss v f 2 0 _ _ _ y (by omega)]
    exact read_scale6 v o o' p f y (by omega)
  · by_cases h1 : (y 1).val = 2
    · exact sub_kept v p f 2 0 1 0 (by omega) (by omega) (by omega) _ _ _ _ _ y (by omega) (by omega) (read_scale6 v o o' p _ y (by omega))
    · exact sub_new v p f 3 0 2 0 1 (by omega) rfl rfl _ _ _ _ y (by simp; omega) (by omega)

/-- After the eighth, every row. -/
theorem read_scale8 (f : v.ty.Contents (Elt F)) :
    v.read (Elt F) (v.writes (Elt F) f (scale8 v o o' p)) = scaleTile p := by
  funext y
  have hy2 : (y 2).val < 256 := (y 2).isLt
  have hy1 : (y 1).val < 4 := (y 1).isLt
  unfold scale8
  by_cases hm : (y 1).val < 2 ∨ (y 2).val < 128
  · rw [sub_miss v f 2 128 _ _ _ y (by omega)]
    exact read_scale7 v o o' p f y (by omega)
  · by_cases h1 : (y 1).val = 2
    · exact sub_kept v p f 2 128 1 0 (by omega) (by omega) (by omega) _ _ _ _ _ y (by omega) (by omega) (read_scale7 v o o' p _ y (by omega))
    · exact sub_new v p f 3 1 2 128 1 (by omega) rfl rfl _ _ _ _ y (by simp; omega) (by omega)

end Scales

/-! ## The body -/

/-- What the body does first: at grid point 0 it fills the three scratch buffers, elsewhere nothing. -/
def initProg (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) : Prog (TpuEff nD τ sig (Elt F) Λ₀ .tc) PUnit :=
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 k0_h1)
    let v344 : Vec F S64x64 .bf16 ← Prog.lift (.load arg4 (Rect.unit (s := S64x64) ![0, 0] S64x64.size inb_S64x64_S64x64_0_0).toLoadRect (View.loadsAt_vmem h_S64x64))
    let v350 : Vec F S64x192 .bf16 ← Prog.lift (.load arg8 (Rect.unit (s := S64x192) ![0, 0] S64x192.size inb_S64x192_S64x192_0_0).toLoadRect (View.loadsAt_vmem h_S64x192))
    Prog.lift (.store arg8 (Rect.unit (s := S64x192) ![0, 0] S64x192.size inb_S64x192_S64x192_0_0) (k0_pay4 v344) Finset.univ (View.stores_vmem h_S64x192 (harg8.storeExact_slice rfl _ packedbf16_S64x192_S64x192_0_0) (fun _ => rfl)) (.inl rfl))
    let v353 : Vec F S1x256 .f32 ← Prog.lift (.load arg2 (Rect.unit (s := S1x256) ![0, 0] S1x256.size inb_S1x256_S1x256_0_0).toLoadRect (View.loadsAt_vmem h_S1x256))
    let v357 : Vec F S256x128 .f32 ← Prog.lift (.load arg9 (Rect.unit (s := S256x128) ![0, 0] S256x128.size inb_S256x128_S256x128_0_0).toLoadRect (View.loadsAt_vmem h_S256x128))
    Prog.lift (.store arg9 (Rect.unit (s := S256x128) ![0, 0] S256x128.size inb_S256x128_S256x128_0_0) (k0_pay5 v353) Finset.univ (View.stores_vmem_bits_univ h_S256x128 rfl) (.inl rfl))
    pure ⟨⟩
  else do
    pure ⟨⟩

/-- What the body loads and computes next, at every grid point. -/
def restProg (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) :
    Prog (TpuEff nD τ sig (Elt F) Λ₀ .tc) (Σ' (v5 : FVec F S256x512 .f32) (v19 : FVec F S64x512 .f32) (v33 : FVec F S64x512 .f32) (v37 : FVec F S64x512 .f32), FVec F S64x512 .bf16) := do
  let v3 : Vec F S256x6144 .bf16 ← Prog.lift (.load arg7 (Rect.unit (s := S256x6144) ![0, 0] S256x6144.size inb_S256x6144_S256x6144_0_0).toLoadRect (View.loadsAt_vmem h_S256x6144))
  let v4 : Vec F S6144x512 .bf16 ← Prog.lift (.load arg3 (Rect.unit (s := S6144x512) ![0, 0] S6144x512.size inb_S6144x512_S6144x512_0_0).toLoadRect (View.loadsAt_vmem h_S6144x512))
  let v6 : Vec F S64x128 .f32 ← Prog.lift (.load arg9 (Rect.unit (s := S256x128) ![0, 0] S64x128.size inb_S256x128_S64x128_0_0).toLoadRect (View.loadsAt_vmem h_S64x128))
  let v18 : Vec F S64x192 .bf16 ← Prog.lift (.load arg8 (Rect.unit (s := S64x192) ![0, 0] S64x192.size inb_S64x192_S64x192_0_0).toLoadRect (View.loadsAt_vmem h_S64x192))
  let v20 : Vec F S64x128 .f32 ← Prog.lift (.load arg9 (Rect.unit (s := S256x128) ![64, 0] S64x128.size inb_S256x128_S64x128_64_0).toLoadRect (View.loadsAt_vmem h_S64x128))
  let v32 : Vec F S64x192 .bf16 ← Prog.lift (.load arg8 (Rect.unit (s := S64x192) ![0, 0] S64x192.size inb_S64x192_S64x192_0_0).toLoadRect (View.loadsAt_vmem h_S64x192))
  let v34 : Vec F S64x128 .f32 ← Prog.lift (.load arg9 (Rect.unit (s := S256x128) ![128, 0] S64x128.size inb_S256x128_S64x128_128_0).toLoadRect (View.loadsAt_vmem h_S64x128))
  pure ⟨k0_pay6 v3 v4, k0_pay7 v3 v4 v6 v18, k0_pay8 v3 v4 v20 v32, k0_pay9 v3 v4 v34, k0_pay10 v3 v4 v34⟩

theorem part1_split (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole) :
    k0_part1_skel (F := F) i arg1 harg1 arg2 harg2 arg3 harg3 arg4 harg4 arg5 harg5 arg6 harg6 arg7 harg7 arg8 harg8 arg9 harg9 = initProg i arg1 harg1 arg2 harg2 arg3 harg3 arg4 harg4 arg5 harg5 arg6 harg6 arg7 harg7 arg8 harg8 arg9 harg9 >>= fun _ => restProg arg1 harg1 arg2 harg2 arg3 harg3 arg4 harg4 arg5 harg5 arg6 harg6 arg7 harg7 arg8 harg8 arg9 harg9 := by
  unfold k0_part1_skel initProg restProg
  by_cases h : k0_cond1 i = 1#1
  · simp only [dif_pos h, bind_assoc, pure_bind]
  · simp only [dif_neg h, pure_bind]

set_option maxHeartbeats 800000 in
/-- The body: whatever the scratch buffers hold after its first branch, it leaves the codes and scales of the rotated weights. -/
theorem sound_kernel (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (x3 : Vec F S6144x512 .bf16) (x7 : Vec F S256x6144 .bf16) (x8 : Vec F S64x192 .bf16) (x9 : Vec F S256x128 .f32) (P R : sProp 𝕄)
    (hinit : ∀ K' : PUnit → sProp 𝕄, iprop(P ∗ ((R ∗ owns (c : Thread nD τ) arg7 fullShare x7 ∗ owns (c : Thread nD τ) arg8 fullShare x8 ∗ owns (c : Thread nD τ) arg9 fullShare x9) -∗ K' ⟨⟩))
      ⊢ wp frame (wpE (defs₀ (F := F)) Variants.none c none) E (initProg (F := F) i arg1 harg1 arg2 harg2 arg3 harg3 arg4 harg4 arg5 harg5 arg6 harg6 arg7 harg7 arg8 harg8 arg9 harg9) K')
    (K : PUnit → sProp 𝕄) :
    iprop(P ∗ owns (c : Thread nD τ) arg3 fullShare x3 ∗ (∃ d, owns (c : Thread nD τ) arg5 fullShare d) ∗ (∃ d, owns (c : Thread nD τ) arg6 fullShare d)
        ∗ ((R ∗ owns (c : Thread nD τ) arg3 fullShare x3 ∗ owns (c : Thread nD τ) arg5 fullShare (out5 (wrot x3 x7 x8 x9)) ∗ owns (c : Thread nD τ) arg6 fullShare (out6 (wrot x3 x7 x8 x9))
          ∗ owns (c : Thread nD τ) arg7 fullShare x7 ∗ owns (c : Thread nD τ) arg8 fullShare x8 ∗ owns (c : Thread nD τ) arg9 fullShare x9) -∗ K ⟨⟩))
      ⊢ wp frame (wpE (defs₀ (F := F)) Variants.none c none) E (cc0_value_fold i arg1 harg1 arg2 harg2 arg3 harg3 arg4 harg4 arg5 harg5 arg6 harg6 arg7 harg7 arg8 harg8 arg9 harg9) K := by
  simp only [cc0_value_fold_eq_skeleton]; unfold cc0_value_fold_skel
  simp only [k0_part1_eq_skeleton, k0_part2_eq_skeleton, k0_part3_eq_skeleton, k0_part4_eq_skeleton, k0_part5_eq_skeleton, k0_part6_eq_skeleton, k0_part7_eq_skeleton, k0_part8_eq_skeleton]
  rw [part1_split, wp_bind, wp_bind]
  iintro ⟨Hp, H3, H5, H6, Hk⟩
  iapply hinit
  isplitl [Hp]; · iexact Hp
  iintro ⟨HR, H7, H8, H9⟩
  rw [← wp_bind]
  unfold restProg
  unfold owns
  icases H3 with ⟨%f3, %hf3, H3⟩
  icases H5 with ⟨%d5, %f5, -, H5⟩
  icases H6 with ⟨%d6, %f6, -, H6⟩
  icases H7 with ⟨%f7, %hf7, H7⟩
  icases H8 with ⟨%f8, %hf8, H8⟩
  icases H9 with ⟨%f9, %hf9, H9⟩
  subst hf3 hf7 hf8 hf9
  sl_exec
  sl_step
  iapply Hk
  isplitl [HR]; · iexact HR
  isplitl [H3]; · iexists _; isplitr; · ipureintro; rfl
                  iexact H3
  have ecode31 : k0_pay1 (sound_kernel.sl.r_15 c arg3 arg7 arg8 arg9 f3 f7 f8 f9) (sound_kernel.sl.r_16 c arg3 arg7 arg8 arg9 f3 f7 f8 f9) = qpack (qcodes (blkT (sound_kernel.sl.r c arg3 arg7 arg8 arg9 f3 f7 f8 f9) 3 1)) := code31  _
  have ecode30 : k0_pay47 (sound_kernel.sl.r_13 c arg3 arg7 arg8 arg9 f3 f7 f8 f9) sound_kernel.sl.cst_104 sound_kernel.sl.cst_105 = qpack (qcodes (blkT (sound_kernel.sl.r c arg3 arg7 arg8 arg9 f3 f7 f8 f9) 3 0)) := code30  _
  have ecode21 : k0_pay42 (sound_kernel.sl.r_9 c arg3 arg7 arg8 arg9 f3 f7 f8 f9) (sound_kernel.sl.r_10 c arg3 arg7 arg8 arg9 f3 f7 f8 f9) (sound_kernel.sl.r_11 c arg3 arg7 arg8 arg9 f3 f7 f8 f9) sound_kernel.sl.cst_89 = qpack (qcodes (blkT (sound_kernel.sl.r c arg3 arg7 arg8 arg9 f3 f7 f8 f9) 2 1)) := code21  _
  have ecode20 : k0_pay35 (sound_kernel.sl.r_7 c arg3 arg7 arg8 arg9 f3 f7 f8 f9) (sound_kernel.sl.r_8 c arg3 arg7 arg8 arg9 f3 f7 f8 f9) = qpack (qcodes (blkT (sound_kernel.sl.r c arg3 arg7 arg8 arg9 f3 f7 f8 f9) 2 0)) := code20  _
  have ecode11 : k0_pay30 (sound_kernel.sl.r c arg3 arg7 arg8 arg9 f3 f7 f8 f9) = qpack (qcodes (blkT (sound_kernel.sl.r c arg3 arg7 arg8 arg9 f3 f7 f8 f9) 1 1)) := code11  _
  have ecode10 : k0_pay26 (sound_kernel.sl.r c arg3 arg7 arg8 arg9 f3 f7 f8 f9) = qpack (qcodes (blkT (sound_kernel.sl.r c arg3 arg7 arg8 arg9 f3 f7 f8 f9) 1 0)) := code10  _
  have ecode01 : k0_pay22 (sound_kernel.sl.r_4 c arg3 arg7 arg8 arg9 f3 f7 f8 f9) (sound_kernel.sl.r_5 c arg3 arg7 arg8 arg9 f3 f7 f8 f9) = qpack (qcodes (blkT (sound_kernel.sl.r c arg3 arg7 arg8 arg9 f3 f7 f8 f9) 0 1)) := code01  _
  have ecode00 : k0_pay15 (sound_kernel.sl.r_2 c arg3 arg7 arg8 arg9 f3 f7 f8 f9) = qpack (qcodes (blkT (sound_kernel.sl.r c arg3 arg7 arg8 arg9 f3 f7 f8 f9) 0 0)) := code00  _ _ _ _ _ _ _ _
  have erow31 : k0_pay2 (sound_kernel.sl.r_14 c arg3 arg7 arg8 arg9 f3 f7 f8 f9) = srow (blkT (sound_kernel.sl.r c arg3 arg7 arg8 arg9 f3 f7 f8 f9) 3 1) := row31  _
  have erow30 : k0_pay48 (sound_kernel.sl.r_12 c arg3 arg7 arg8 arg9 f3 f7 f8 f9) = srow (blkT (sound_kernel.sl.r c arg3 arg7 arg8 arg9 f3 f7 f8 f9) 3 0) := row30  _
  have erow21 : k0_pay43 (sound_kernel.sl.r_10 c arg3 arg7 arg8 arg9 f3 f7 f8 f9) (sound_kernel.sl.r_11 c arg3 arg7 arg8 arg9 f3 f7 f8 f9) sound_kernel.sl.cst_89 = srow (blkT (sound_kernel.sl.r c arg3 arg7 arg8 arg9 f3 f7 f8 f9) 2 1) := row21  _
  have erow20 : k0_pay36 (sound_kernel.sl.r_8 c arg3 arg7 arg8 arg9 f3 f7 f8 f9) = srow (blkT (sound_kernel.sl.r c arg3 arg7 arg8 arg9 f3 f7 f8 f9) 2 0) := row20  _
  have erow11 : k0_pay31 (sound_kernel.sl.r c arg3 arg7 arg8 arg9 f3 f7 f8 f9) = srow (blkT (sound_kernel.sl.r c arg3 arg7 arg8 arg9 f3 f7 f8 f9) 1 1) := row11  _
  have erow10 : k0_pay27 (sound_kernel.sl.r_6 c arg3 arg7 arg8 arg9 f3 f7 f8 f9) = srow (blkT (sound_kernel.sl.r c arg3 arg7 arg8 arg9 f3 f7 f8 f9) 1 0) := row10  _
  have erow01 : k0_pay23 (sound_kernel.sl.r_3 c arg3 arg7 arg8 arg9 f3 f7 f8 f9) = srow (blkT (sound_kernel.sl.r c arg3 arg7 arg8 arg9 f3 f7 f8 f9) 0 1) := row01  _
  have erow00 : k0_pay16 (sound_kernel.sl.r_1 c arg3 arg7 arg8 arg9 f3 f7 f8 f9) = srow (blkT (sound_kernel.sl.r c arg3 arg7 arg8 arg9 f3 f7 f8 f9) 0 0) := row00  _ _ _ _ _ _ _ _
  have eW : (sound_kernel.sl.r c arg3 arg7 arg8 arg9 f3 f7 f8 f9) = wrot (arg3.view.read (Elt F) f3) (arg7.view.read (Elt F) f7) (arg8.view.read (Elt F) f8) (arg9.view.read (Elt F) f9) := rfl
  isplitl [H5]
  · iexists _; isplitr
    swap; · iexact H5
    ipureintro
    rw [← eW, ecode31, ecode30, ecode21, ecode20, ecode11, ecode10, ecode01, ecode00]
    exact read_codePieces arg5.view f5 fun g h => qpack (qcodes (blkT (sound_kernel.sl.r c arg3 arg7 arg8 arg9 f3 f7 f8 f9) g h))
  isplitl [H6]
  · iexists _; isplitr
    swap; · iexact H6
    ipureintro
    rw [← eW]
    delta sound_kernel.sl.old_6
    delta sound_kernel.sl.H6_7
    delta sound_kernel.sl.old_5
    delta sound_kernel.sl.H6_6
    delta sound_kernel.sl.old_4
    delta sound_kernel.sl.old_3
    delta sound_kernel.sl.old_2
    delta sound_kernel.sl.H6_3
    delta sound_kernel.sl.old_1
    delta sound_kernel.sl.H6_2
    delta sound_kernel.sl.old
    rw [erow31, erow30, erow21, erow20, erow11, erow10, erow01, erow00]
    exact read_scale8 arg6.view ![arg6.view.readAt (Elt F) (Rect.unit (s := S1x4x256) ![0, 0, 0] S1x2x128.size inb_S1x4x256_S1x2x128_0_0_0).toLoadRect f6,
        arg6.view.readAt (Elt F) (Rect.unit (s := S1x4x256) ![0, 0, 128] S1x2x128.size inb_S1x4x256_S1x2x128_0_0_128).toLoadRect f6]
      ![arg6.view.readAt (Elt F) (Rect.unit (s := S1x4x256) ![0, 2, 0] S1x2x128.size inb_S1x4x256_S1x2x128_0_2_0).toLoadRect f6,
        arg6.view.readAt (Elt F) (Rect.unit (s := S1x4x256) ![0, 2, 128] S1x2x128.size inb_S1x4x256_S1x2x128_0_2_128).toLoadRect f6]
      (fun g h => srow (blkT (sound_kernel.sl.r c arg3 arg7 arg8 arg9 f3 f7 f8 f9) g h)) f6
  isplitl [H7]; · iexists _; isplitr; · ipureintro; rfl
                  iexact H7
  isplitl [H8]; · iexists _; isplitr; · ipureintro; rfl
                  iexact H8
  iexists _; isplitr; · ipureintro; rfl
  iexact H9

/-! ## The first grid point fills the scratch buffers -/

theorem off1_eq : ∀ k : Fin k0_t1_loop.trips, k0_off1 k = ![256 * k.val, 0] := by decide +kernel

theorem off2_eq : ∀ k : Fin k0_t1_loop.trips, k0_off2 k = ![0, 256 * k.val] := by decide +kernel

theorem trips_eq : k0_t1_loop.trips = 24 := by decide +kernel

/-- A tile of 256 columns just stored reads as itself. -/
theorem wt_hit (v : View sig .tc .vmem S256x6144 .bf16) (f : v.ty.Contents (Elt F)) (off : Fin 2 → ℕ) (r : ℕ) (ho : off = ![0, r])
    (inb : ∀ a, off a + S256x256.size a ≤ S256x6144.size a) (w : S256x256.Idx → Elt F .bf16) (L : List (View.Piece (Elt F) S256x6144 .bf16))
    (y : S256x6144.Idx) (h1 : r ≤ (y 1).val) (h2 : (y 1).val < r + 256) :
    v.read (Elt F) (v.writes (Elt F) f (⟨Rect.unit (s := S256x6144) off S256x256.size inb, w⟩ :: L)) y
      = w (ix2 (y 0 : Fin 256) (⟨(y 1).val - r, by omega⟩ : Fin 256)) := by
  subst ho
  exact View.read_writes_cons_unit_of_mem v f inb w L y (ix2 (y 0 : Fin 256) (⟨(y 1).val - r, by omega⟩ : Fin 256)) rfl (by
    intro a; fin_cases a
    · simp [ix2]
    · simp [ix2]; omega)

/-- Elsewhere it leaves what the earlier stores left. -/
theorem wt_miss (v : View sig .tc .vmem S256x6144 .bf16) (f : v.ty.Contents (Elt F)) (off : Fin 2 → ℕ) (r : ℕ) (ho : off = ![0, r])
    (inb : ∀ a, off a + S256x256.size a ≤ S256x6144.size a) (w : S256x256.Idx → Elt F .bf16) (L : List (View.Piece (Elt F) S256x6144 .bf16))
    (y : S256x6144.Idx) (h : (y 1).val < r) :
    v.read (Elt F) (v.writes (Elt F) f (⟨Rect.unit (s := S256x6144) off S256x256.size inb, w⟩ :: L)) y = v.read (Elt F) (v.writes (Elt F) f L) y := by
  subst ho
  exact View.read_writes_cons_unit_of_not_mem v f inb w L y rfl 1 (.inl (by simpa using h))

/-- A load of 256 rows of codes. -/
theorem rows_load (v : View sig .tc .vmem S6144x256 .i8) (f : v.ty.Contents (Elt F)) (off : Fin 2 → ℕ) (k : Fin 24) (ho : off = ![256 * k.val, 0])
    (inb : ∀ a, off a + S256x256.size a ≤ S6144x256.size a) :
    v.readAt (Elt F) (Rect.unit (s := S6144x256) off S256x256.size inb).toLoadRect f = rowsAt (v.read (Elt F) f) k := by
  subst ho
  funext x
  unfold rowsAt
  rw [View.readAt_apply]
  congr 1
  funext a; apply Fin.ext; fin_cases a
  · simp [LoadRect.idx, Rect.toLoadRect, Rect.unit, ix2]
  · simp [LoadRect.idx, Rect.toLoadRect, Rect.unit, ix2]

section Loop

variable (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
  (hi : k0_cond1 i = 1#1) (X : arg1.view.ty.Contents (Elt F))

/-- Trip `k` of the loop stores one tile: 256 rows of codes, transposed and cast. -/
theorem trip_eq (k : Fin k0_t1_loop.trips) :
    tripL_k0_t1 (F := F) Variants.none c none i arg1 harg1 arg2 harg2 arg3 harg3 arg4 harg4 arg5 harg5 arg6 harg6 arg7 harg7 arg8 harg8 arg9 harg9 hi X k
      = [⟨Rect.unit (s := S256x6144) (k0_off2 k) S256x256.size (k0_off2_inb i k hi),
          k0_pay3 (arg1.view.readAt (Elt F) (Rect.unit (s := S6144x256) (k0_off1 k) S256x256.size (k0_off1_inb i k hi)).toLoadRect X)⟩] := by
  unfold tripL_k0_t1 trip_k0_t1
  rfl

/-- After `n` trips the first `256 n` columns of the buffer hold the transposed, cast codes. -/
theorem pb_read (G : arg7.view.ty.Contents (Elt F)) (n : ℕ) (hn : n ≤ k0_t1_loop.trips) (y : S256x6144.Idx) (hy : (y 1).val < 256 * n) :
    arg7.view.read (Elt F) (arg7.view.writes (Elt F) G (pb_k0_t1 (F := F) Variants.none c none i arg1 harg1 arg2 harg2 arg3 harg3 arg4 harg4 arg5 harg5 arg6 harg6 arg7 harg7 arg8 harg8 arg9 harg9 hi X n)) y
      = wtOf (arg1.view.read (Elt F) X) y := by
  induction n with
  | zero => omega
  | succ n ih =>
    rw [pb_k0_t1_succ Variants.none c none i arg1 harg1 arg2 harg2 arg3 harg3 arg4 harg4 arg5 harg5 arg6 harg6 arg7 harg7 arg8 harg8 arg9 harg9 hi X ⟨n, hn⟩, trip_eq c i arg1 harg1 arg2 harg2 arg3 harg3 arg4 harg4 arg5 harg5 arg6 harg6 arg7 harg7 arg8 harg8 arg9 harg9 hi X ⟨n, hn⟩]
    simp only [List.singleton_append]
    by_cases h : (y 1).val < 256 * n
    · exact (wt_miss _ _ _ _ (off2_eq ⟨n, hn⟩) _ _ _ y h).trans (ih (by omega) h)
    · have hn' : n < 24 := by rw [← trips_eq]; omega
      refine (wt_hit _ _ _ _ (off2_eq ⟨n, hn⟩) _ _ _ y (by simpa using h) (by simp; omega)).trans ?_
      rw [rows_load arg1.view X _ ⟨n, hn'⟩ (off1_eq ⟨n, hn⟩)]
      unfold wtOf
      have e1 : (y 1).val / 256 = n := by omega
      have e2 : (y 1).val % 256 = (y 1).val - 256 * n := by omega
      have e3 : (⟨(y 1).val / 256, by have h : (y 1).val < 6144 := (y 1).isLt; omega⟩ : Fin 24) = ⟨n, hn'⟩ := Fin.ext e1
      have e4 : (⟨(y 1).val % 256, Nat.mod_lt _ (by decide)⟩ : Fin 256) = ⟨(y 1).val - 256 * n, by omega⟩ := Fin.ext e2
      rw [e3, e4]

/-- After the loop the buffer holds the transposed, cast codes. -/
theorem pb_all (G : arg7.view.ty.Contents (Elt F)) :
    arg7.view.read (Elt F) (arg7.view.writes (Elt F) G (pb_k0_t1 (F := F) Variants.none c none i arg1 harg1 arg2 harg2 arg3 harg3 arg4 harg4 arg5 harg5 arg6 harg6 arg7 harg7 arg8 harg8 arg9 harg9 hi X k0_t1_loop.trips))
      = wtOf (arg1.view.read (Elt F) X) := by
  funext y
  refine pb_read c i arg1 harg1 arg2 harg2 arg3 harg3 arg4 harg4 arg5 harg5 arg6 harg6 arg7 harg7 arg8 harg8 arg9 harg9 hi X G _ le_rfl y ?_
  have h : (y 1).val < 6144 := (y 1).isLt
  rw [trips_eq]; omega

end Loop

/-- At the first grid point the body fills the three scratch buffers from the codes, the channel scales and the rotation. -/
theorem init_first (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (hi : k0_cond1 i = 1#1) (x1 : Vec F S6144x256 .i8) (x2 : Vec F S1x256 .f32) (x4 : Vec F S64x64 .bf16) (K' : PUnit → sProp 𝕄) :
    iprop((owns (c : Thread nD τ) arg1 fullShare x1 ∗ owns (c : Thread nD τ) arg2 fullShare x2 ∗ owns (c : Thread nD τ) arg4 fullShare x4
        ∗ (∃ d, owns (c : Thread nD τ) arg7 fullShare d) ∗ (∃ d, owns (c : Thread nD τ) arg8 fullShare d) ∗ (∃ d, owns (c : Thread nD τ) arg9 fullShare d))
      ∗ (((owns (c : Thread nD τ) arg1 fullShare x1 ∗ owns (c : Thread nD τ) arg2 fullShare x2 ∗ owns (c : Thread nD τ) arg4 fullShare x4)
        ∗ owns (c : Thread nD τ) arg7 fullShare (wtOf x1) ∗ owns (c : Thread nD τ) arg8 fullShare (r2tOf x4) ∗ owns (c : Thread nD τ) arg9 fullShare (wstOf x2)) -∗ K' ⟨⟩))
      ⊢ wp frame (wpE (defs₀ (F := F)) Variants.none c none) E (initProg (F := F) i arg1 harg1 arg2 harg2 arg3 harg3 arg4 harg4 arg5 harg5 arg6 harg6 arg7 harg7 arg8 harg8 arg9 harg9) K' := by
  unfold initProg owns
  rw [dif_pos hi]
  iintro ⟨⟨⟨%f1, %hf1, H1⟩, ⟨%f2, %hf2, H2⟩, ⟨%f4, %hf4, H4⟩, ⟨%d7, %f7, -, H7⟩, ⟨%d8, %f8, -, H8⟩, ⟨%d9, %f9, -, H9⟩⟩, Hk⟩
  subst hf1 hf2 hf4
  sl_exec
  sl_step
  iapply Hk
  isplitl [H1 H2 H4]
  · isplitl [H1]; · iexists _; isplitr; · ipureintro; rfl
                    iexact H1
    isplitl [H2]; · iexists _; isplitr; · ipureintro; rfl
                    iexact H2
    iexists _; isplitr; · ipureintro; rfl
    iexact H4
  isplitl [H7]
  · iexists _; isplitr
    swap; · iexact H7
    ipureintro
    exact pb_all c i arg1 harg1 arg2 harg2 arg3 harg3 arg4 harg4 arg5 harg5 arg6 harg6 arg7 harg7 arg8 harg8 arg9 harg9 hi f1 f7
  isplitl [H8]
  · iexists _; isplitr
    swap; · iexact H8
    ipureintro
    funext y
    exact View.read_writes_cons_unit_of_mem _ _ _ _ _ y y rfl (by intro a; fin_cases a <;> simp)
  iexists _; isplitr
  swap; · iexact H9
  ipureintro
  funext y
  exact View.read_writes_cons_unit_of_mem _ _ _ _ _ y y rfl (by intro a; fin_cases a <;> simp)

/-- At a later grid point it does nothing. -/
theorem init_later (c : Dev nD) (E : Set ℕ) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S1x4x256 .bf16) (harg6 : arg6.IsWhole) (arg7 : Memref sig .tc .vmem S256x6144 .bf16) (harg7 : arg7.IsWhole) (arg8 : Memref sig .tc .vmem S64x192 .bf16) (harg8 : arg8.IsWhole) (arg9 : Memref sig .tc .vmem S256x128 .f32) (harg9 : arg9.IsWhole)
    (hi : ¬ k0_cond1 i = 1#1) (P R : sProp 𝕄) (hPR : P ⊢ R) (K' : PUnit → sProp 𝕄) :
    iprop(P ∗ (R -∗ K' ⟨⟩)) ⊢ wp frame (wpE (defs₀ (F := F)) Variants.none c none) E (initProg (F := F) i arg1 harg1 arg2 harg2 arg3 harg3 arg4 harg4 arg5 harg5 arg6 harg6 arg7 harg7 arg8 harg8 arg9 harg9) K' := by
  unfold initProg
  rw [dif_neg hi]
  iintro ⟨Hp, Hk⟩
  sl_step
  iapply Hk
  iapply hPR
  iexact Hp

end Cert.KernelIdeal.Hand

end
-- ==== Proof.KIRun.lean ====
module

public import proofs.«01_k».proof.Proof.KIBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What each grid point finds and leaves -/

section Run

variable (m : (ℓ : Loc nD τ sig) → Buf (Elt F) ℓ) (ρ : Dev nD → PrngReg)

/-- The scratch buffers at some contents. -/
def scratchAny (c : Dev nD) : sProp 𝕄 :=
  iprop((∃ d : Vec F S256x6144 .bf16, owns (c : Thread nD τ) (Memref.whole cc0_scratch0) fullShare d)
    ∗ (∃ d : Vec F S64x192 .bf16, owns (c : Thread nD τ) (Memref.whole cc0_scratch1) fullShare d)
    ∗ (∃ d : Vec F S256x128 .f32, owns (c : Thread nD τ) (Memref.whole cc0_scratch2) fullShare d))

/-- What the first scratch buffer holds from the first grid point on. -/
def sc7 (c : Dev nD) : Vec F S256x6144 .bf16 := wtOf (iblk m c 0 t0_0)
/-- What the second scratch buffer holds from the first grid point on. -/
def sc8 (c : Dev nD) : Vec F S64x192 .bf16 := r2tOf (iblk m c 3 t0_0)
/-- What the third scratch buffer holds from the first grid point on. -/
def sc9 (c : Dev nD) : Vec F S256x128 .f32 := wstOf (iblk m c 1 t0_0)

/-- The scratch buffers filled. -/
def scratchSet (c : Dev nD) : sProp 𝕄 :=
  iprop(owns (c : Thread nD τ) (Memref.whole cc0_scratch0) fullShare (sc7 m c)
    ∗ owns (c : Thread nD τ) (Memref.whole cc0_scratch1) fullShare (sc8 m c)
    ∗ owns (c : Thread nD τ) (Memref.whole cc0_scratch2) fullShare (sc9 m c))

/-- The rotated weights of grid point `t`. -/
def rot (c : Dev nD) (t : Fin cfg0.N) : FVec F S256x512 .f32 := wrot (iblk m c 2 t) (sc7 m c) (sc8 m c) (sc9 m c)

/-- The proof data: inputs keep their blocks, the outputs get the codes and the scales of the rotated weights; the scratch
    buffers hold anything before the first point and their filled contents after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5 (rot m c t)
    | ⟨5, _⟩ => out6 (rot m c t)
  Φ t := iprop((if t.val = 0 then scratchAny c else scratchSet m c) ∗ ∃ r, prngReg c r)
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t = iprop((if t.val = 0 then scratchAny c else scratchSet m c) ∗ ∃ r, prngReg c r) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out5 (rot m c t) := by dsimp only [dats]
theorem after0_5 (c : Dev nD) (t : Fin cfg0.N) : (dats m 0 c).after 5 t = out6 (rot m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body's first branch runs at grid point 0 and at no other. -/
theorem cond_iff : ∀ t : Fin grid0.N, k0_cond1 (grid0.coords t) = 1#1 ↔ t.val = 0 := by decide +kernel

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: at the first it fills the scratch buffers, at every point it leaves the codes and scales. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, Φ_eq, Φ_eq, if_neg (show ¬ (t.succ).val = 0 from by simp)]
  by_cases ht : t.val = 0
  · obtain rfl : t = t0_0 := Fin.ext ht
    rw [if_pos (show (Fin.castSucc (t0_0 : Fin cfg0.N)).val = 0 from rfl)]
    unfold scratchAny scratchSet
    iintro ⟨⟨⟨H7, H8, H9⟩, Hr⟩, Ho, ⟨%d0, H0⟩, ⟨%d1, H1⟩, ⟨%d2, H2⟩, ⟨%d3, H3⟩, ⟨%d4, H4⟩, ⟨%d5, H5⟩⟩
    iapply (sound_kernel c Set.univ _ _ _ _ _ _ _ _ _ _ _ _ _ _ _ _ _ _ _ (iblk m c 2 t0_0) (sc7 m c) (sc8 m c) (sc9 m c) _ _
      (init_first c Set.univ _ _ _ _ _ _ _ _ _ _ _ _ _ _ _ _ _ _ _ ((cond_iff t0_0).mpr rfl) (iblk m c 0 t0_0) (iblk m c 1 t0_0) (iblk m c 3 t0_0)) _)
    isplitl [H0 H1 H3 H7 H8 H9]
    · isplitl [H0]; · iexact H0
      isplitl [H1]; · iexact H1
      isplitl [H3]; · iexact H3
      isplitl [H7]; · iexact H7
      isplitl [H8]; · iexact H8
      iexact H9
    isplitl [H2]; · iexact H2
    isplitl [H4]; · iexists _; iexact H4
    isplitl [H5]; · iexists _; iexact H5
    iintro ⟨⟨H0, H1, H3⟩, H2, H4, H5, H7, H8, H9⟩
    isplitl [H7 H8 H9 Hr]
    · isplitr [Hr]
      · isplitl [H7]; · iexact H7
        isplitl [H8]; · iexact H8
        iexact H9
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [if_neg (show ¬ (Fin.castSucc t).val = 0 from ht)]
    unfold scratchSet
    iintro ⟨⟨⟨H7, H8, H9⟩, Hr⟩, Ho, ⟨%d0, H0⟩, ⟨%d1, H1⟩, ⟨%d2, H2⟩, ⟨%d3, H3⟩, ⟨%d4, H4⟩, ⟨%d5, H5⟩⟩
    iapply (sound_kernel c Set.univ _ _ _ _ _ _ _ _ _ _ _ _ _ _ _ _ _ _ _ (iblk m c 2 t) (sc7 m c) (sc8 m c) (sc9 m c) _ _
      (init_later c Set.univ _ _ _ _ _ _ _ _ _ _ _ _ _ _ _ _ _ _ _ (fun h => ht ((cond_iff t).mp h)) _
        iprop((owns (c : Thread nD τ) (st0_0 t) fullShare (iblk m c 0 t) ∗ owns (c : Thread nD τ) (st0_1 t) fullShare (iblk m c 1 t) ∗ owns (c : Thread nD τ) (st0_3 t) fullShare (iblk m c 3 t))
          ∗ owns (c : Thread nD τ) (Memref.whole cc0_scratch0) fullShare (sc7 m c)
          ∗ owns (c : Thread nD τ) (Memref.whole cc0_scratch1) fullShare (sc8 m c)
          ∗ owns (c : Thread nD τ) (Memref.whole cc0_scratch2) fullShare (sc9 m c)) .rfl) _)
    isplitl [H0 H1 H3 H7 H8 H9]
    · isplitl [H0 H1 H3]
      · isplitl [H0]; · iexact H0
        isplitl [H1]; · iexact H1
        iexact H3
      isplitl [H7]; · iexact H7
      isplitl [H8]; · iexact H8
      iexact H9
    isplitl [H2]; · iexact H2
    isplitl [H4]; · iexists _; iexact H4
    isplitl [H5]; · iexists _; iexact H5
    iintro ⟨⟨H0, H1, H3⟩, H2, H4, H5, H7, H8, H9⟩
    isplitl [H7 H8 H9 Hr]
    · isplitr [Hr]
      · isplitl [H7]; · iexact H7
        isplitl [H8]; · iexact H8
        iexact H9
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! Owning a whole scratch buffer is holding it at its contents. -/

theorem ownsIn0 (c : Dev nD) (f : Vec F S256x6144 .bf16) :
    ((c : Thread nD τ).loc cc0_scratch0 ↦{fullShare} f : sProp 𝕄) ⊢ owns (c : Thread nD τ) (Memref.whole cc0_scratch0) fullShare f := by
  rw [show (owns (c : Thread nD τ) (Memref.whole cc0_scratch0) fullShare f : sProp 𝕄) = _ from owns_whole (c : Thread nD τ) cc0_scratch0 fullShare f]
theorem ownsOut0 (c : Dev nD) (f : Vec F S256x6144 .bf16) :
    (owns (c : Thread nD τ) (Memref.whole cc0_scratch0) fullShare f : sProp 𝕄) ⊢ ((c : Thread nD τ).loc cc0_scratch0 ↦{fullShare} f) := by
  rw [show (owns (c : Thread nD τ) (Memref.whole cc0_scratch0) fullShare f : sProp 𝕄) = _ from owns_whole (c : Thread nD τ) cc0_scratch0 fullShare f]
theorem ownsIn1 (c : Dev nD) (f : Vec F S64x192 .bf16) :
    ((c : Thread nD τ).loc cc0_scratch1 ↦{fullShare} f : sProp 𝕄) ⊢ owns (c : Thread nD τ) (Memref.whole cc0_scratch1) fullShare f := by
  rw [show (owns (c : Thread nD τ) (Memref.whole cc0_scratch1) fullShare f : sProp 𝕄) = _ from owns_whole (c : Thread nD τ) cc0_scratch1 fullShare f]
theorem ownsOut1 (c : Dev nD) (f : Vec F S64x192 .bf16) :
    (owns (c : Thread nD τ) (Memref.whole cc0_scratch1) fullShare f : sProp 𝕄) ⊢ ((c : Thread nD τ).loc cc0_scratch1 ↦{fullShare} f) := by
  rw [show (owns (c : Thread nD τ) (Memref.whole cc0_scratch1) fullShare f : sProp 𝕄) = _ from owns_whole (c : Thread nD τ) cc0_scratch1 fullShare f]
theorem ownsIn2 (c : Dev nD) (f : Vec F S256x128 .f32) :
    ((c : Thread nD τ).loc cc0_scratch2 ↦{fullShare} f : sProp 𝕄) ⊢ owns (c : Thread nD τ) (Memref.whole cc0_scratch2) fullShare f := by
  rw [show (owns (c : Thread nD τ) (Memref.whole cc0_scratch2) fullShare f : sProp 𝕄) = _ from owns_whole (c : Thread nD τ) cc0_scratch2 fullShare f]
theorem ownsOut2 (c : Dev nD) (f : Vec F S256x128 .f32) :
    (owns (c : Thread nD τ) (Memref.whole cc0_scratch2) fullShare f : sProp 𝕄) ⊢ ((c : Thread nD τ).loc cc0_scratch2 ↦{fullShare} f) := by
  rw [show (owns (c : Thread nD τ) (Memref.whole cc0_scratch2) fullShare f : sProp 𝕄) = _ from owns_whole (c : Thread nD τ) cc0_scratch2 fullShare f]

/-- Before the first point the scratch buffers hold anything. -/
theorem hin (c : Dev nD) : Pipeline.ΦA (cfgs 0).spec c ⊢ (dats (F := F) m 0 c).Φ 0 := by
  rw [Φ_eq, if_pos (show ((0 : Fin (cfg0.N + 1))).val = 0 from rfl)]
  unfold Pipeline.ΦA scratchAny
  rw [show (cfgs 0).spec = spec0 from rfl, scopedRest0_eq]
  iintro ⟨⟨⟨%f7, H7⟩, ⟨%f8, H8⟩, ⟨%f9, H9⟩⟩, Hr⟩
  isplitr [Hr]
  · isplitl [H7]
    · iexists f7; iapply ownsIn0 c f7; iexact H7
    isplitl [H8]
    · iexists f8; iapply ownsIn1 c f8; iexact H8
    iexists f9; iapply ownsIn2 c f9; iexact H9
  iexact Hr

/-- After the last point they are handed back. -/
theorem hout (c : Dev nD) : (dats (F := F) m 0 c).Φ (Fin.last cfg0.N) ⊢ Pipeline.ΦA (cfgs 0).spec c := by
  rw [Φ_eq, if_neg (show ¬ (Fin.last cfg0.N).val = 0 from by decide +kernel)]
  unfold Pipeline.ΦA scratchSet
  rw [show (cfgs 0).spec = spec0 from rfl, scopedRest0_eq]
  iintro ⟨⟨H7, H8, H9⟩, Hr⟩
  isplitr [Hr]
  · isplitl [H7]
    · iexists (sc7 m c); iapply ownsOut0 c (sc7 m c); iexact H7
    isplitl [H8]
    · iexists (sc8 m c); iapply ownsOut1 c (sc8 m c); iexact H8
    iexists (sc9 m c); iapply ownsOut2 c (sc9 m c); iexact H9
  iexact Hr

/-! ## The run -/

set_option backward.isDefEq.respectTransparency.types false in
set_option maxHeartbeats 800000 in
/-- Every execution of @main ends, with every pipelined array at what the proof data computes, what the host lines after the
    region write, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends with the four argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: every execution ends, the argument arrays unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Run

end Cert.KernelIdeal.Hand

end
-- ==== Proof.Spec.lean ====
module

public import Idealize.ShloMosaic.Lib.Pointwise

@[expose] public section

set_option maxRecDepth 16384

noncomputable section

/-! The quantiser on plain functions, and why three-part products change nothing it can see. -/

namespace Cert.Spec

open Idealize.ShloMosaic

/-- The largest magnitude of a group of 128 weights. -/
def top (w : Fin 128 → EReal) : EReal :=
  Finset.fold max (Ideal.ofBits .f32 4286578688#32) (fun r => FloatOps.absf (F := Ideal) (φ := .f32) (w r)) Finset.univ

/-- A group's scale: its largest magnitude over seven, one where that is zero. -/
def scale (w : Fin 128 → EReal) : EReal :=
  if top w = 0 then 1 else Ideal.div (top w) (Ideal.ofBits .f32 1088421888#32)

/-- The code of one weight of a group. -/
def code (w : Fin 128 → EReal) (r : Fin 128) : BitVec 8 :=
  FloatOps.fptosi (F := Ideal) (φ := .f32) 8
    (min (Ideal.ofBits .f32 1088421888#32) (max (Ideal.ofBits .f32 3235905536#32)
      (Ideal.liftRound Ideal.roundHalfEven (Ideal.div (w r) (scale w)))))

/-- One rotated weight, as products summed. -/
def rot1 (x r : Fin 64 → EReal) : EReal := ∑ d, x d * r d

/-- One rotated weight from a slice cut in three: the slice, what one rounding drops and what a second drops. -/
def rot3 (x r : Fin 64 → EReal) : EReal :=
  (∑ d, r d * x d) + (∑ d, r d * (x d - x d)) + (∑ d, r d * ((x d - x d) - (x d - x d)))

/-- Two weights the quantiser cannot tell apart: equal, or both infinite. -/
def Same (a b : EReal) : Prop := a = b ∨ ((a = ⊤ ∨ a = ⊥) ∧ (b = ⊤ ∨ b = ⊥))

theorem add_inf {a b : EReal} (h : a = ⊤ ∨ a = ⊥) : a + b = ⊤ ∨ a + b = ⊥ := by
  rcases h with rfl | rfl
  · by_cases hb : b = ⊥
    · right; rw [hb]; exact EReal.add_bot _
    · left; exact EReal.top_add_of_ne_bot hb
  · right; exact EReal.bot_add _

/-- A finite sum with an infinite term is infinite. -/
theorem sum_inf {n : ℕ} {f : Fin n → EReal} {d : Fin n} (h : f d = ⊤ ∨ f d = ⊥) : ∑ k, f k = ⊤ ∨ ∑ k, f k = ⊥ := by
  rw [← Finset.add_sum_erase Finset.univ f (Finset.mem_univ d)]
  exact add_inf h

theorem mul_inf {x r : EReal} (hr : r ≠ 0) (hx : x = ⊤ ∨ x = ⊥) : x * r = ⊤ ∨ x * r = ⊥ := by
  rcases lt_or_gt_of_ne hr with h | h <;> rcases hx with rfl | rfl
  · right; exact EReal.top_mul_of_neg h
  · left; exact EReal.bot_mul_of_neg h
  · left; exact EReal.top_mul_of_pos h
  · right; exact EReal.bot_mul_of_pos h

theorem sub_self_fin {x : EReal} (h1 : x ≠ ⊤) (h2 : x ≠ ⊥) : x - x = 0 := EReal.sub_self h1 h2

/-- The two rotations agree wherever the quantiser looks: equal when every product is finite or has a zero factor, both infinite
    otherwise. -/
theorem rot3_same (x r : Fin 64 → EReal) : Same (rot3 x r) (rot1 x r) := by
  by_cases h : ∀ d, r d = 0 ∨ (x d ≠ ⊤ ∧ x d ≠ ⊥)
  · left
    unfold rot3 rot1
    have h2 : ∀ d, r d * (x d - x d) = 0 := fun d => by
      rcases h d with h | ⟨ht, hb⟩
      · rw [h, zero_mul]
      · rw [sub_self_fin ht hb, mul_zero]
    have h3 : ∀ d, r d * ((x d - x d) - (x d - x d)) = 0 := fun d => by
      rcases h d with h | ⟨ht, hb⟩
      · rw [h, zero_mul]
      · rw [sub_self_fin ht hb, sub_self_fin EReal.zero_ne_top EReal.zero_ne_bot, mul_zero]
    rw [Finset.sum_eq_zero (fun d _ => h2 d), Finset.sum_eq_zero (fun d _ => h3 d), add_zero, add_zero]
    exact Finset.sum_congr rfl fun d _ => mul_comm _ _
  · right
    push Not at h
    obtain ⟨d, hr, hx⟩ := h
    have hx' : x d = ⊤ ∨ x d = ⊥ := by
      by_cases ht : x d = ⊤
      · exact .inl ht
      · exact .inr (hx ht)
    constructor
    · refine add_inf (add_inf (sum_inf (d := d) ?_))
      rw [mul_comm]
      exact mul_inf hr hx'
    · exact sum_inf (d := d) (mul_inf hr hx')

theorem absf_inf {a : EReal} (h : a = ⊤ ∨ a = ⊥) : FloatOps.absf (F := Ideal) (φ := .f32) a = (⊤ : EReal) := by
  rcases h with rfl | rfl
  · show max (⊤ : EReal) (-⊤) = ⊤
    simp
  · show max (⊥ : EReal) (-⊥) = ⊤
    simp

theorem Same.absf {a b : EReal} (h : Same a b) :
    FloatOps.absf (F := Ideal) (φ := .f32) a = FloatOps.absf (F := Ideal) (φ := .f32) b := by
  rcases h with rfl | ⟨ha, hb⟩
  · rfl
  · exact (absf_inf ha).trans (absf_inf hb).symm

/-- Groups the quantiser cannot tell apart have the same scale. -/
theorem scale_same {w w' : Fin 128 → EReal} (h : ∀ r, Same (w r) (w' r)) : scale w = scale w' := by
  have ht : top w = top w' := by
    unfold top
    exact congrArg (fun f => Finset.fold max _ f Finset.univ) (funext fun r => (h r).absf)
  unfold scale
  rw [ht]

theorem seven_eq : Ideal.ofBits .f32 1088421888#32 = ((7 : ℝ) : EReal) := by
  simp [Ideal.ofBits, Ideal.ieee, -EReal.coe_mul]; norm_num

/-- A group with an infinite weight has the scale `⊤`. -/
theorem scale_inf {w : Fin 128 → EReal} {r : Fin 128} (h : w r = ⊤ ∨ w r = ⊥) : scale w = ⊤ := by
  have ht : top w = ⊤ := by
    refine top_le_iff.mp ?_
    unfold top
    rw [Finset.le_fold_max]
    exact .inr ⟨r, Finset.mem_univ r, (absf_inf h).ge⟩
  unfold scale
  rw [ht, if_neg EReal.top_ne_zero, seven_eq]
  unfold Ideal.div
  rw [if_neg (by norm_num), ← EReal.coe_inv]
  exact EReal.top_mul_coe_of_pos (by norm_num)

/-- Groups the quantiser cannot tell apart have the same codes. -/
theorem code_same {w w' : Fin 128 → EReal} (h : ∀ r, Same (w r) (w' r)) (r : Fin 128) : code w r = code w' r := by
  have hs := scale_same h
  have hd : Ideal.div (w r) (scale w) = Ideal.div (w' r) (scale w') := by
    rw [← hs]
    rcases h r with e | ⟨ha, hb⟩
    · rw [e]
    · rw [scale_inf ha]
      unfold Ideal.div
      rw [if_neg EReal.top_ne_zero, if_neg EReal.top_ne_zero, EReal.inv_top, mul_zero, mul_zero]
  unfold code
  rw [hd]

/-! ## The two results from the four arguments -/

/-- One scaled weight before the second rotation: row `i`, channel `c`. -/
def prod (q : Fin 6144 → Fin 256 → BitVec 8) (s : Fin 256 → EReal) (r1 : Fin 6144 → Fin 6144 → EReal)
    (i : Fin 6144) (c : Fin 256) : EReal :=
  (∑ j : Fin 6144, FloatOps.sitofp (F := Ideal) .bf16 (q j c) * r1 j i) * s c

/-- One rotated weight as the reference sums it. -/
def refW (q : Fin 6144 → Fin 256 → BitVec 8) (s : Fin 256 → EReal) (r1 : Fin 6144 → Fin 6144 → EReal) (r2 : Fin 64 → Fin 64 → EReal)
    (i : Fin 6144) (c : Fin 256) : EReal :=
  rot1 (fun d => prod q s r1 i ⟨c.val / 64 * 64 + d.val, by omega⟩) (fun d => r2 d ⟨c.val % 64, by omega⟩)

/-- One rotated weight as the kernel sums it. -/
def kerW (q : Fin 6144 → Fin 256 → BitVec 8) (s : Fin 256 → EReal) (r1 : Fin 6144 → Fin 6144 → EReal) (r2 : Fin 64 → Fin 64 → EReal)
    (i : Fin 6144) (c : Fin 256) : EReal :=
  rot3 (fun d => prod q s r1 i ⟨c.val / 64 * 64 + d.val, by omega⟩) (fun d => r2 d ⟨c.val % 64, by omega⟩)

/-- Group `g` of channel `c`: rows `128 g` to `128 g + 127`. -/
def grp (w : Fin 6144 → Fin 256 → EReal) (g : Fin 48) (c : Fin 256) : Fin 128 → EReal :=
  fun r => w ⟨g.val * 128 + r.val, by omega⟩ c

/-- Two codes in one byte, the first in the low half. -/
def byte (lo hi : BitVec 8) : BitVec 8 :=
  BitVec.setWidth 8 (IntOp.ori (IntOp.andi (BitVec.signExtend 32 lo) 15#32) (IntOp.shli .vector (IntOp.andi (BitVec.signExtend 32 hi) 15#32) 4#32))

/-- The second result: the scale of each group of each channel. -/
def scaleOut (w : Fin 6144 → Fin 256 → EReal) (g : Fin 48) (c : Fin 256) : EReal := scale (grp w g c)

/-- The first result: the codes of rows `2 p` and `2 p + 1` in one byte. -/
def codeOut (w : Fin 6144 → Fin 256 → EReal) (p : Fin 3072) (c : Fin 256) : BitVec 8 :=
  byte (code (grp w ⟨p.val / 64, by omega⟩ c) ⟨p.val % 64 * 2, by omega⟩)
    (code (grp w ⟨p.val / 64, by omega⟩ c) ⟨p.val % 64 * 2 + 1, by omega⟩)

theorem grp_same (q : Fin 6144 → Fin 256 → BitVec 8) (s : Fin 256 → EReal) (r1 : Fin 6144 → Fin 6144 → EReal)
    (r2 : Fin 64 → Fin 64 → EReal) (g : Fin 48) (c : Fin 256) (r : Fin 128) :
    Same (grp (kerW q s r1 r2) g c r) (grp (refW q s r1 r2) g c r) := rot3_same _ _

/-- Both sums give the same scales. -/
theorem scaleOut_eq (q : Fin 6144 → Fin 256 → BitVec 8) (s : Fin 256 → EReal) (r1 : Fin 6144 → Fin 6144 → EReal)
    (r2 : Fin 64 → Fin 64 → EReal) (g : Fin 48) (c : Fin 256) :
    scaleOut (kerW q s r1 r2) g c = scaleOut (refW q s r1 r2) g c := scale_same (grp_same q s r1 r2 g c)

/-- Both sums give the same packed codes. -/
theorem codeOut_eq (q : Fin 6144 → Fin 256 → BitVec 8) (s : Fin 256 → EReal) (r1 : Fin 6144 → Fin 6144 → EReal)
    (r2 : Fin 64 → Fin 64 → EReal) (p : Fin 3072) (c : Fin 256) :
    codeOut (kerW q s r1 r2) p c = codeOut (refW q s r1 r2) p c := by
  unfold codeOut
  rw [code_same (grp_same q s r1 r2 _ c) _, code_same (grp_same q s r1 r2 _ c) _]

/-- The bits of a packed byte. -/
theorem byte_bit (lo hi : BitVec 8) (b : Nat) (hb : b < 8) :
    (byte lo hi).getLsbD b = if b < 4 then lo.getLsbD b else hi.getLsbD (b - 4) := by
  unfold byte
  simp only [IntOp.ori, IntOp.andi, IntOp.shli, show (4#32).toNat < 32 from by decide, if_true]
  interval_cases b <;>
    simp [BitVec.getLsbD_setWidth, BitVec.getLsbD_or, BitVec.getLsbD_and, BitVec.getLsbD_signExtend, BitVec.getElem_signExtend, BitVec.getLsbD_shiftLeft]

end Cert.Spec

end
-- ==== Proof.KIPure.lean ====
module

public import proofs.«01_k».proof.Proof.KIBody
public import proofs.«01_k».proof.Proof.Spec
public import Idealize.ShloMosaic.Lib.Pointwise
public import Idealize.ShloMosaic.Lib.BitcastFour
public import Idealize.ShloMosaic.Lib.BitcastPair

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## One head: a 64-channel slice scaled, cut in three, and rotated -/

/-- The scaled slice of one head. -/
def headX (v5 : FVec Ideal S256x512 .f32) (s : FVec Ideal S64x128 .f32) (o : Fin 4) : FVec Ideal S64x512 .f32 :=
  mulf (extractStridedSlice S64x512 ![64 * o.val, 0] v5 (by revert o; decide))
    (concatenate S64x512 1 [⟨S64x128, s⟩, ⟨S64x128, s⟩, ⟨S64x128, s⟩, ⟨S64x128, s⟩] concatenates_S64x128_S64x128_S64x128_S64x128_S64x512_d1)

/-- A slice rotated as the kernel does it: the slice, what rounding it to 16 bits drops, and what rounding that drops, stacked,
    against three copies of the transposed rotation side by side. -/
def headR (w : FVec Ideal S64x192 .bf16) (x : FVec Ideal S64x512 .f32) : FVec Ideal S64x512 .f32 :=
  have v10 : FVec Ideal S64x512 .bf16 := truncf .bf16 x bitsLt_bf16_f32
  have v12 : FVec Ideal S64x512 .f32 := subf x (extf .f32 v10 bitsLt_bf16_f32)
  have v13 : FVec Ideal S64x512 .bf16 := truncf .bf16 v12 bitsLt_bf16_f32
  have v15 : FVec Ideal S64x512 .f32 := subf v12 (extf .f32 v13 bitsLt_bf16_f32)
  have v16 : FVec Ideal S64x512 .bf16 := truncf .bf16 v15 bitsLt_bf16_f32
  matmul dot_S64x192_S192x512_S64x512_1_0_0_1_n_n none w
    (concatenate S192x512 0 [⟨S64x512, v10⟩, ⟨S64x512, v13⟩, ⟨S64x512, v16⟩] concatenates_S64x512_S64x512_S64x512_S192x512_d0)
    (constant S64x512 .f32 0x00000000#32)

theorem headX_at (v5 : FVec Ideal S256x512 .f32) (s : FVec Ideal S64x128 .f32) (o : Fin 4) (d : Fin 64) (i : Fin 512) :
    headX v5 s o (ix2 d i) = v5 (ix2 (⟨64 * o.val + d.val, by omega⟩ : Fin 256) i) * s (ix2 d (⟨i.val % 128, by omega⟩ : Fin 128)) := by
  pointwise [headX]
  have hi := i.isLt
  congr 1
  split_ifs <;> (congr 2; apply Fin.ext; dsimp only; omega)

/-- A sum over 192 is the sum of its three runs of 64. -/
theorem sum192 (f : Fin 192 → EReal) : ∑ q, f q = (∑ d : Fin 64, f ⟨d.val, by omega⟩)
    + (∑ d : Fin 64, f ⟨64 + d.val, by omega⟩) + (∑ d : Fin 64, f ⟨128 + d.val, by omega⟩) := by
  have h1 := Fin.sum_univ_add (a := 128) (b := 64) f
  have h2 := Fin.sum_univ_add (a := 64) (b := 64) (fun q : Fin 128 => f (Fin.castAdd 64 q))
  rw [h1, h2]
  rfl

theorem headR_at (w : FVec Ideal S64x192 .bf16) (x : FVec Ideal S64x512 .f32) (e : Fin 64) (i : Fin 512) :
    headR w x (ix2 e i) = (∑ d : Fin 64, w (ix2 e (⟨d.val, by omega⟩ : Fin 192)) * x (ix2 d i))
      + (∑ d : Fin 64, w (ix2 e (⟨64 + d.val, by omega⟩ : Fin 192)) * (x (ix2 d i) - x (ix2 d i)))
      + (∑ d : Fin 64, w (ix2 e (⟨128 + d.val, by omega⟩ : Fin 192)) * ((x (ix2 d i) - x (ix2 d i)) - (x (ix2 d i) - x (ix2 d i)))) := by
  pointwise [headR]
  rw [sum192]
  congr 1

/-! ## What the kernel keeps, at an index -/

/-- The kept codes, transposed. -/
theorem wtOf_at (x1 : Vec Ideal S6144x256 .i8) (c : Fin 256) (j : Fin 6144) :
    wtOf (F := Ideal) x1 (ix2 c j) = FloatOps.sitofp (F := Ideal) .bf16 (x1 (ix2 j c) : BitVec 8) := by
  have hj := j.isLt
  pointwise [wtOf, k0_pay3, rowsAt]
  have h : (⟨256 * (j.val / 256) + j.val % 256, by omega⟩ : Fin 6144) = j := by apply Fin.ext; dsimp only; omega
  rw [h]

/-- The kept rotation: three transposed copies. -/
theorem r2tOf_at (x4 : Vec Ideal S64x64 .bf16) (e : Fin 64) (q : Fin 192) :
    r2tOf (F := Ideal) x4 (ix2 e q) = x4 (ix2 (⟨q.val % 64, by omega⟩ : Fin 64) e) := by
  pointwise [r2tOf, k0_pay4]
  have hq := q.isLt
  split_ifs <;> (congr 2; apply Fin.ext; dsimp only; omega)

/-- The kept channel scales. -/
theorem wstOf_at (x2 : Vec Ideal S1x256 .f32) (c : Fin 256) (l : Fin 128) :
    wstOf (F := Ideal) x2 (ix2 c l) = x2 (ix2 0 c) := by
  pointwise [wstOf, k0_pay5]

/-- The first product. -/
theorem pay6_at (x7 : Vec Ideal S256x6144 .bf16) (x3 : Vec Ideal S6144x512 .bf16) (c : Fin 256) (i : Fin 512) :
    k0_pay6 (F := Ideal) x7 x3 (ix2 c i) = ∑ j : Fin 6144, x7 (ix2 c j) * x3 (ix2 j i) := by
  pointwise [k0_pay6]

/-- Four heads stacked, at a row of one of them. -/
theorem catH_at (f : Fin 4 → FVec Ideal S64x512 .f32) (c : Fin 256) (i : Fin 512) :
    concatenate S256x512 0 [⟨S64x512, f 0⟩, ⟨S64x512, f 1⟩, ⟨S64x512, f 2⟩, ⟨S64x512, f 3⟩] concatenates_S64x512_S64x512_S64x512_S64x512_S256x512_d0
      (ix2 c i) = f ⟨c.val / 64, by omega⟩ (ix2 (⟨c.val % 64, by omega⟩ : Fin 64) i) := by
  have hc := c.isLt
  pointwise
  have key : ∀ (a : Fin 4) (b : Fin 64), a.val = c.val / 64 → b.val = c.val % 64 →
      f a (ix2 b i) = f ⟨c.val / 64, by omega⟩ (ix2 (⟨c.val % 64, by omega⟩ : Fin 64) i) := by
    intro a b ha hb
    rw [show a = ⟨c.val / 64, by omega⟩ from Fin.ext ha, show b = ⟨c.val % 64, by omega⟩ from Fin.ext hb]
  by_cases h1 : c.val < 64
  · rw [dif_pos h1]
    exact key 0 _ (by show 0 = c.val / 64; omega) (by show c.val = c.val % 64; omega)
  rw [dif_neg h1]
  by_cases h2 : c.val - 64 < 64
  · rw [dif_pos h2]
    exact key 1 _ (by show 1 = c.val / 64; omega) (by show c.val - 64 = c.val % 64; omega)
  rw [dif_neg h2]
  by_cases h3 : c.val - 64 - 64 < 64
  · rw [dif_pos h3]
    exact key 2 _ (by show 2 = c.val / 64; omega) (by show c.val - 64 - 64 = c.val % 64; omega)
  rw [dif_neg h3]
  exact key 3 _ (by show 3 = c.val / 64; omega) (by show c.val - 64 - 64 - 64 = c.val % 64; omega)

/-! ## The rotated weights of one grid point -/

/-- The slice of the channel scales of one head. -/
def headS (x9 : Vec Ideal S256x128 .f32) (o : Fin 4) : FVec Ideal S64x128 .f32 := fun k =>
  x9 (ix2 (⟨64 * o.val + (k 0).val, by have h : (k 0).val < 64 := (k 0).isLt; omega⟩ : Fin 256) (k 1 : Fin 128))

theorem ldS0 (x9 : Vec Ideal S256x128 .f32) : View.ld x9 (Rect.unit (s := S256x128) ![0, 0] S64x128.size inb_S256x128_S64x128_0_0) = headS x9 0 := by
  funext k; idx_vars k; pointwise [headS]
theorem ldS1 (x9 : Vec Ideal S256x128 .f32) : View.ld x9 (Rect.unit (s := S256x128) ![64, 0] S64x128.size inb_S256x128_S64x128_64_0) = headS x9 1 := by
  funext k; idx_vars k; pointwise [headS]
theorem ldS2 (x9 : Vec Ideal S256x128 .f32) : View.ld x9 (Rect.unit (s := S256x128) ![128, 0] S64x128.size inb_S256x128_S64x128_128_0) = headS x9 2 := by
  funext k; idx_vars k; pointwise [headS]
theorem ldS3 (x9 : Vec Ideal S256x128 .f32) : View.ld x9 (Rect.unit (s := S256x128) ![192, 0] S64x128.size inb_S256x128_S64x128_192_0) = headS x9 3 := by
  funext k; idx_vars k; pointwise [headS]
theorem ld3 (x : Vec Ideal S6144x512 .bf16) : View.ld x (Rect.unit (s := S6144x512) ![0, 0] S6144x512.size inb_S6144x512_S6144x512_0_0) = x := by
  funext k; idx_vars k; pointwise
theorem ld7 (x : Vec Ideal S256x6144 .bf16) : View.ld x (Rect.unit (s := S256x6144) ![0, 0] S256x6144.size inb_S256x6144_S256x6144_0_0) = x := by
  funext k; idx_vars k; pointwise
theorem ld8 (x : Vec Ideal S64x192 .bf16) : View.ld x (Rect.unit (s := S64x192) ![0, 0] S64x192.size inb_S64x192_S64x192_0_0) = x := by
  funext k; idx_vars k; pointwise

/-- The rotated weights are the four heads, each scaled and rotated, stacked. -/
theorem wrot_eq (x3 : Vec Ideal S6144x512 .bf16) (x7 : Vec Ideal S256x6144 .bf16) (x8 : Vec Ideal S64x192 .bf16) (x9 : Vec Ideal S256x128 .f32) :
    wrot (F := Ideal) x3 x7 x8 x9 = (fun f : Fin 4 → FVec Ideal S64x512 .f32 =>
      concatenate S256x512 0 [⟨S64x512, f 0⟩, ⟨S64x512, f 1⟩, ⟨S64x512, f 2⟩, ⟨S64x512, f 3⟩] concatenates_S64x512_S64x512_S64x512_S64x512_S256x512_d0)
      (fun o => headR x8 (headX (k0_pay6 (F := Ideal) x7 x3) (headS x9 o) o)) := by
  unfold wrot
  rw [ldS0, ldS1, ldS2, ldS3, ld3, ld7, ld8]
  rfl

/-- One rotated weight of one grid point, from what the scratch buffers keep. -/
theorem wrot_at (x1 : Vec Ideal S6144x256 .i8) (x2 : Vec Ideal S1x256 .f32) (x3 : Vec Ideal S6144x512 .bf16) (x4 : Vec Ideal S64x64 .bf16)
    (c : Fin 256) (i : Fin 512) :
    wrot (F := Ideal) x3 (wtOf (F := Ideal) x1) (r2tOf (F := Ideal) x4) (wstOf (F := Ideal) x2) (ix2 c i)
      = Spec.rot3 (fun d => (∑ j : Fin 6144, FloatOps.sitofp (F := Ideal) .bf16 (x1 (ix2 j (⟨c.val / 64 * 64 + d.val, by omega⟩ : Fin 256)) : BitVec 8)
            * x3 (ix2 j i)) * x2 (ix2 0 (⟨c.val / 64 * 64 + d.val, by omega⟩ : Fin 256)))
          (fun d => x4 (ix2 d (⟨c.val % 64, by omega⟩ : Fin 64))) := by
  rw [wrot_eq]
  dsimp only
  rw [catH_at (fun o => headR (r2tOf (F := Ideal) x4) (headX (k0_pay6 (F := Ideal) (wtOf (F := Ideal) x1) x3) (headS (wstOf (F := Ideal) x2) o) o)),
    headR_at]
  have hx : ∀ d : Fin 64, headX (k0_pay6 (F := Ideal) (wtOf (F := Ideal) x1) x3) (headS (wstOf (F := Ideal) x2) ⟨c.val / 64, by omega⟩) ⟨c.val / 64, by omega⟩ (ix2 d i)
      = (∑ j : Fin 6144, FloatOps.sitofp (F := Ideal) .bf16 (x1 (ix2 j (⟨c.val / 64 * 64 + d.val, by omega⟩ : Fin 256)) : BitVec 8)
            * x3 (ix2 j i)) * x2 (ix2 0 (⟨c.val / 64 * 64 + d.val, by omega⟩ : Fin 256)) := by
    intro d
    have hc : (⟨64 * (c.val / 64) + d.val, by omega⟩ : Fin 256) = ⟨c.val / 64 * 64 + d.val, by omega⟩ := by
      apply Fin.ext; dsimp only; omega
    rw [headX_at, pay6_at, hc]
    have hs : headS (wstOf (F := Ideal) x2) ⟨c.val / 64, by omega⟩ (ix2 d (⟨i.val % 128, by omega⟩ : Fin 128))
        = wstOf (F := Ideal) x2 (ix2 (⟨64 * (c.val / 64) + d.val, by omega⟩ : Fin 256) (⟨i.val % 128, by omega⟩ : Fin 128)) := rfl
    rw [hs, hc, wstOf_at]
    congr 1
    exact Finset.sum_congr rfl fun j _ => by rw [wtOf_at]
  have hr : ∀ (k : Nat) (hk : k < 3) (d : Fin 64), r2tOf (F := Ideal) x4 (ix2 (⟨c.val % 64, by omega⟩ : Fin 64) (⟨64 * k + d.val, by omega⟩ : Fin 192))
      = x4 (ix2 d (⟨c.val % 64, by omega⟩ : Fin 64)) := by
    intro k hk d
    have hd := d.isLt
    rw [r2tOf_at]
    have h : (⟨(64 * k + d.val) % 64, by omega⟩ : Fin 64) = d := by apply Fin.ext; dsimp only; omega
    rw [h]
  have hr0 : ∀ d : Fin 64, r2tOf (F := Ideal) x4 (ix2 (⟨c.val % 64, by omega⟩ : Fin 64) (⟨d.val, by omega⟩ : Fin 192))
      = x4 (ix2 d (⟨c.val % 64, by omega⟩ : Fin 64)) := fun d => by
    have h := hr 0 (by decide) d
    simpa using h
  have hr1 := hr 1 (by decide)
  have hr2 := hr 2 (by decide)
  simp only [Nat.mul_one, show 64 * 2 = 128 from rfl] at hr1 hr2
  unfold Spec.rot3
  simp only [hx, hr0, hr1, hr2]

/-! ## The quantiser of one block, at an index -/

/-- Column `l` of the block of group `g` and half `h`, as a group of 128 weights. -/
def blkG (v : FVec Ideal S256x512 .f32) (g : Fin 4) (h : Fin 2) (l : Fin 128) : Fin 128 → EReal := fun r =>
  v (ix2 (⟨128 * h.val + l.val, by omega⟩ : Fin 256) (⟨128 * g.val + r.val, by omega⟩ : Fin 512))

theorem srow_at (v : FVec Ideal S256x512 .f32) (g : Fin 4) (h : Fin 2) (l : Fin 128) :
    srow (F := Ideal) (blkT v g h) (ix3 0 0 l) = Spec.scale (blkG v g h l) := by
  pointwise [srow, qscale, blkT]
  rfl

theorem qcodes_at (v : FVec Ideal S256x512 .f32) (g : Fin 4) (h : Fin 2) (r l : Fin 128) :
    qcodes (F := Ideal) (blkT v g h) (ix2 r l) = Spec.code (blkG v g h l) r := by
  pointwise [srow, qscale, blkT, qcodes]
  rfl

/-- One 16-bit half of a word of 32 bits, as a row of the result. -/
theorem half_bit (y : IVec S32x128 32) (s : Fin 64) (l : Fin 128) (b : Nat) (hb : b < 16) :
    (bitcast S64x128 16 y bitcasts_S32x128_w32_S64x128_w16 (ix2 s l)).getLsbD b
      = (y (ix2 (⟨s.val / 2, by omega⟩ : Fin 32) l)).getLsbD (16 * (s.val % 2) + b) := by
  rw [bitcast_getLsbD y bitcasts_S32x128_w32_S64x128_w16 (ix2 s l) b hb (by decide)]
  have hrow : S64x128.row (ix2 s l) = s.val := rfl
  have e1 : (S64x128.row (ix2 s l) * 16 + b) % 32 = 16 * (s.val % 2) + b := by rw [hrow]; omega
  rw [e1]
  congr 2
  funext a
  apply Fin.ext
  fin_cases a
  · show (S64x128.row (ix2 s l) * 16 + b) / 32 = s.val / 2
    rw [hrow]; omega
  · rfl

/-- A packed byte of a block holds the codes of two neighbouring rows, the even row in the low half. -/
theorem qpack_at (q : IVec S128x128 8) (s : Fin 64) (l : Fin 128) :
    qpack q (ix2 s l) = Spec.byte (q (ix2 (⟨s.val * 2, by omega⟩ : Fin 128) l)) (q (ix2 (⟨s.val * 2 + 1, by omega⟩ : Fin 128) l)) := by
  apply BitVec.eq_of_getLsbD_eq
  intro b hb
  rw [Spec.byte_bit _ _ b hb]
  unfold qpack
  show (BitVec.setWidth 8 (bitcast S64x128 16 _ bitcasts_S32x128_w32_S64x128_w16 (ix2 s l))).getLsbD b = _
  rw [BitVec.getLsbD_setWidth, half_bit _ s l b (by omega)]
  have hw : ∀ (k : Nat) (hk : k < 32) (p : Fin 128), p.val = 4 * (s.val / 2) + k / 8 →
      (bitcast S32x128 32 q bitcasts_S128x128_w8_S32x128_w32 (ix2 (⟨s.val / 2, by omega⟩ : Fin 32) l)).getLsbD k
        = (q (ix2 p l)).getLsbD (k % 8) := fun k hk p hp =>
    bitcast_8_32_getLsbD_ix2 q bitcasts_S128x128_w8_S32x128_w32 (⟨s.val / 2, by omega⟩ : Fin 32) l k hk p hp
  generalize hW : bitcast S32x128 32 q bitcasts_S128x128_w8_S32x128_w32 = W at hw ⊢
  show (decide (b < 8) && (IntOp.ori (IntOp.andi (W (ix2 (⟨s.val / 2, by omega⟩ : Fin 32) l)) 983055#32)
    (IntOp.andi (IntOp.shrui .vector (W (ix2 (⟨s.val / 2, by omega⟩ : Fin 32) l)) 4#32) 15728880#32)).getLsbD (16 * (s.val % 2) + b)) = _
  generalize hu : W (ix2 (⟨s.val / 2, by omega⟩ : Fin 32) l) = u
  have hw' : ∀ (k : Nat) (hk : k < 32) (p : Fin 128), p.val = 4 * (s.val / 2) + k / 8 → u.getLsbD k = (q (ix2 p l)).getLsbD (k % 8) := by
    intro k hk p hp
    rw [← hu]
    exact hw k hk p hp
  have h16 : s.val % 2 = 0 ∨ s.val % 2 = 1 := by omega
  have hsh : IntOp.shrui .vector u 4#32 = u >>> 4 := rfl
  simp only [hsh, IntOp.ori, IntOp.andi, BitVec.getLsbD_or, BitVec.getLsbD_and, BitVec.getLsbD_ushiftRight]
  have hb' : decide (b < 8) = true := decide_eq_true hb
  rw [hb', Bool.true_and]
  by_cases h4 : b < 4
  · rw [if_pos h4]
    have hm1 : (983055#32).getLsbD (16 * (s.val % 2) + b) = true := by
      rcases h16 with h | h <;> rw [h] <;> interval_cases b <;> rfl
    have hm2 : (15728880#32).getLsbD (16 * (s.val % 2) + b) = false := by
      rcases h16 with h | h <;> rw [h] <;> interval_cases b <;> rfl
    rw [hm1, hm2, Bool.and_true, Bool.and_false, Bool.or_false,
      hw' (16 * (s.val % 2) + b) (by omega) ⟨s.val * 2, by omega⟩ (by dsimp only; omega)]
    congr 1; omega
  · rw [if_neg h4]
    have hm1 : (983055#32).getLsbD (16 * (s.val % 2) + b) = false := by
      rcases h16 with h | h <;> rw [h] <;> interval_cases b <;> first | rfl | omega
    have hm2 : (15728880#32).getLsbD (16 * (s.val % 2) + b) = true := by
      rcases h16 with h | h <;> rw [h] <;> interval_cases b <;> first | rfl | omega
    rw [hm1, hm2, Bool.and_true, Bool.and_false, Bool.false_or,
      hw' (4 + (16 * (s.val % 2) + b)) (by omega) ⟨s.val * 2 + 1, by omega⟩ (by dsimp only; omega)]
    congr 1; omega

end Cert.KernelIdeal.Hand

end
-- ==== Proof.KIVal.lean ====
module

public import proofs.«01_k».proof.Proof.KIRun
public import proofs.«01_k».proof.Proof.KIPure
public import Idealize.ShloMosaic.Lib.Claim
public import Idealize.ShloMosaic.Lib.Pipeline.ValueKit

@[expose] public section

set_option maxRecDepth 16384

noncomputable section

/-! The kernel's two results, as plain functions of its arguments. -/

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices. -/
theorem idx : ∀ t : Fin cfg0.N, win0_0.index t = ![0, 0] ∧ win0_1.index t = ![0, 0] ∧ win0_2.index t = ![0, t.val]
    ∧ win0_3.index t = ![0, 0] ∧ win0_4.index t = ![t.val, 0] ∧ win0_5.index t = ![t.val, 0, 0] :=
  (by decide +kernel : ∀ t : Fin grid0.N, win0_0.index t = ![0, 0] ∧ win0_1.index t = ![0, 0] ∧ win0_2.index t = ![0, t.val]
    ∧ win0_3.index t = ![0, 0] ∧ win0_4.index t = ![t.val, 0] ∧ win0_5.index t = ![t.val, 0, 0])

/-- The kernel's rotated weights as a plain function of row and channel. -/
def kw (c : Dev nD) : Fin 6144 → Fin 256 → EReal :=
  Spec.kerW (fun j ch => m ((c : Thread nD τ).loc main_arg0) (ix3 0 j ch)) (fun ch => m ((c : Thread nD τ).loc main_arg1) (ix2 0 ch))
    (fun j i => m ((c : Thread nD τ).loc main_arg2) (ix2 j i)) (fun d e => m ((c : Thread nD τ).loc main_arg3) (ix3 0 d e))

theorem V_v0 (c : Dev nD) (j : Fin 6144) (ch : Fin 256) : V m c main_v0 (ix2 j ch) = m ((c : Thread nD τ).loc main_arg0) (ix3 0 j ch) := by
  unfold V V0
  simp only [List.flatten_cons, List.flatten_nil, List.append_nil]
  after_results
  pointwise

theorem V_v1 (c : Dev nD) (d e : Fin 64) : V m c main_v1 (ix2 d e) = m ((c : Thread nD τ).loc main_arg3) (ix3 0 d e) := by
  unfold V V0
  simp only [List.flatten_cons, List.flatten_nil, List.append_nil]
  after_results
  pointwise

theorem iblk0_at (c : Dev nD) (t : Fin cfg0.N) (j : Fin 6144) (ch : Fin 256) :
    iblk m c 0 t (ix2 j ch) = m ((c : Thread nD τ).loc main_arg0) (ix3 0 j ch) := by
  rw [← V_v0 m c]
  blk_point [iblk, idx t]

theorem iblk1_at (c : Dev nD) (t : Fin cfg0.N) (ch : Fin 256) :
    iblk m c 1 t (ix2 0 ch) = m ((c : Thread nD τ).loc main_arg1) (ix2 0 ch) := by
  rw [← V_main_arg1 m c]
  blk_point [iblk, idx t]

theorem iblk2_at (c : Dev nD) (t : Fin cfg0.N) (j : Fin 6144) (i : Fin 512) (I : Fin 6144) (hI : I.val = 512 * t.val + i.val) :
    iblk m c 2 t (ix2 j i) = m ((c : Thread nD τ).loc main_arg2) (ix2 j I) := by
  rw [← V_main_arg2 m c]
  blk_point [iblk, idx t]

theorem iblk3_at (c : Dev nD) (t : Fin cfg0.N) (d e : Fin 64) :
    iblk m c 3 t (ix2 d e) = m ((c : Thread nD τ).loc main_arg3) (ix3 0 d e) := by
  rw [← V_v1 m c]
  blk_point [iblk, idx t]

/-- The rotated weights of grid point `t` are rows `512 t` to `512 t + 511`. -/
theorem rot_at (c : Dev nD) (t : Fin cfg0.N) (ch : Fin 256) (i : Fin 512) (I : Fin 6144) (hI : I.val = 512 * t.val + i.val) :
    rot (F := Ideal) m c t (ix2 ch i) = kw m c I ch := by
  unfold rot sc7 sc8 sc9
  rw [wrot_at]
  unfold kw Spec.kerW Spec.prod
  simp only [iblk0_at, iblk1_at, iblk3_at, iblk2_at m c t _ i I hI]

/-- A column of a block is a group of the rotated weights. -/
theorem blkG_rot (c : Dev nD) (t : Fin cfg0.N) (g : Fin 4) (h : Fin 2) (l : Fin 128) (G : Fin 48) (ch : Fin 256)
    (hG : G.val = 4 * t.val + g.val) (hc : ch.val = 128 * h.val + l.val) :
    blkG (rot (F := Ideal) m c t) g h l = Spec.grp (kw m c) G ch := by
  funext r
  unfold blkG Spec.grp
  rw [rot_at m c t _ _ ⟨G.val * 128 + r.val, by omega⟩ (by dsimp only; omega)]
  congr 1
  exact Fin.ext hc.symm

/-- The packed codes grid point `t` stores, at an index of its block. -/
theorem out5_at (c : Dev nD) (t : Fin cfg0.N) (r : Fin 256) (ch : Fin 256) (p : Fin 3072) (hp : p.val = 256 * t.val + r.val) :
    out5 (F := Ideal) (rot (F := Ideal) m c t) (ix2 r ch) = Spec.codeOut (kw m c) p ch := by
  show qpack (qcodes (F := Ideal) (blkT (rot (F := Ideal) m c t) ⟨r.val / 64, by omega⟩ ⟨ch.val / 128, by omega⟩))
    (ix2 (⟨r.val % 64, by omega⟩ : Fin 64) (⟨ch.val % 128, by omega⟩ : Fin 128)) = _
  rw [qpack_at, qcodes_at, qcodes_at,
    blkG_rot m c t _ _ _ ⟨p.val / 64, by omega⟩ ch (by dsimp only; omega) (by dsimp only; omega)]
  unfold Spec.codeOut
  have h : p.val % 64 = r.val % 64 := by omega
  simp only [h]

/-- The scales grid point `t` stores, at an index of its block. -/
theorem out6_at (c : Dev nD) (t : Fin cfg0.N) (g : Fin 4) (ch : Fin 256) (G : Fin 48) (hG : G.val = 4 * t.val + g.val) :
    out6 (F := Ideal) (rot (F := Ideal) m c t) (ix3 0 g ch) = Spec.scaleOut (kw m c) G ch := by
  show srow (F := Ideal) (blkT (rot (F := Ideal) m c t) g ⟨ch.val / 128, by omega⟩) (ix3 0 0 (⟨ch.val % 128, by omega⟩ : Fin 128)) = _
  rw [srow_at, blkG_rot m c t _ _ _ G ch hG (by dsimp only; omega)]
  rfl

/-- The same at any index of the block and any array index it sits at. -/
theorem out5_emb (c : Dev nD) (t : Fin cfg0.N) (y : S256x256.Idx) (p : Fin 3072) (ch : Fin 256)
    (hp : p.val = 256 * t.val + (y 0).val) (hc : ch.val = (y 1).val) :
    out5 (F := Ideal) (rot (F := Ideal) m c t) y = Spec.codeOut (kw m c) p ch := by
  idx_vars y
  rw [show ch = _ from Fin.ext hc]
  exact out5_at m c t _ _ p hp

/-- The same of the scales. -/
theorem out6_emb (c : Dev nD) (t : Fin cfg0.N) (y : S1x4x256.Idx) (G : Fin 48) (ch : Fin 256)
    (hG : G.val = 4 * t.val + (y 1).val) (hc : ch.val = (y 2).val) :
    out6 (F := Ideal) (rot (F := Ideal) m c t) y = Spec.scaleOut (kw m c) G ch := by
  idx_vars y
  rw [show ch = _ from Fin.ext hc]
  exact out6_at m c t _ _ G hG

/-- The packed codes the region leaves. -/
theorem final4 (c : Dev nD) : (dats m 0 c).arrAt 4 (cfgs 0).N
    = (fun y => Spec.codeOut (kw m c) (y 0) (y 1) : S3072x256.Idx → BitVec 8) := by
  refine (dats m 0 c).arrAt_eq_of_covers 4 _ (by decide +kernel) fun t _ y => ?_
  have i0 : win0_4.index t 0 = t.val := by rw [(idx t).2.2.2.2.1]; rfl
  have i1 : win0_4.index t 1 = 0 := by rw [(idx t).2.2.2.2.1]; rfl
  blk_simp
  rw [after0_4]
  refine out5_emb m c t y _ _ ?_ ?_
  · blk_simp [i0]
    omega
  · blk_simp [i1]

/-- The scales the region leaves. -/
theorem final5 (c : Dev nD) : (dats m 0 c).arrAt 5 (cfgs 0).N
    = (fun y => Spec.scaleOut (kw m c) ⟨4 * (y 0).val + (y 1).val, by
        have h0 : (y 0).val < 12 := (y 0).isLt
        have h1 : (y 1).val < 4 := (y 1).isLt
        omega⟩ (y 2) : S12x4x256.Idx → EReal) := by
  refine (dats m 0 c).arrAt_eq_of_covers 5 _ (by decide +kernel) fun t _ y => ?_
  have i0 : win0_5.index t 0 = t.val := by rw [(idx t).2.2.2.2.2]; rfl
  have i1 : win0_5.index t 1 = 0 := by rw [(idx t).2.2.2.2.2]; rfl
  have i2 : win0_5.index t 2 = 0 := by rw [(idx t).2.2.2.2.2]; rfl
  blk_simp
  rw [after0_5]
  refine out6_emb m c t y _ _ ?_ ?_
  · show 4 * win0_5.index t 0 + (win0_5.index t 1 * 4 + (y 1).val) = 4 * t.val + (y 1).val
    rw [i0, i1]; omega
  · blk_simp [i2]

/-! ## The two results after the last host operations -/

/-- The first result: the packed codes with a leading axis. -/
theorem res4 (c : Dev nD) (p : Fin 3072) (ch : Fin 256) :
    Pipeline.afterTail₀ cfgs (dats m) 0 (V0 m) [hostOps1] c main_v4 (ix3 0 p ch) = Spec.codeOut (kw m c) p ch := by
  unfold Pipeline.afterTail₀
  simp only [List.flatten_cons, List.flatten_nil, List.append_nil]
  after_results
  have h : Pipeline.withArrays (cfgs 0).spec c (V0 m c) (fun w => (dats m 0 c).arrAt w (cfgs 0).N) (Proc.devRef .tc main_v2_0)
      = (fun y => Spec.codeOut (kw m c) (y 0) (y 1) : S3072x256.Idx → BitVec 8) :=
    (Pipeline.withArrays_arr (cfgs 0).spec launch0.win.arr_inj c (V0 m c) (fun w => (dats m 0 c).arrAt w (cfgs 0).N) 4).trans (final4 m c)
  rw [h]
  pointwise

/-- The second result: the scales with groups on one axis. -/
theorem res5 (c : Dev nD) (g : Fin 48) (ch : Fin 256) :
    Pipeline.afterTail₀ cfgs (dats m) 0 (V0 m) [hostOps1] c main_v5 (ix3 0 g ch) = Spec.scaleOut (kw m c) g ch := by
  unfold Pipeline.afterTail₀
  simp only [List.flatten_cons, List.flatten_nil, List.append_nil]
  after_results
  have h : Pipeline.withArrays (cfgs 0).spec c (V0 m c) (fun w => (dats m 0 c).arrAt w (cfgs 0).N) (Proc.devRef .tc main_v2_1)
      = (fun y => Spec.scaleOut (kw m c) ⟨4 * (y 0).val + (y 1).val, by
          have h0 : (y 0).val < 12 := (y 0).isLt
          have h1 : (y 1).val < 4 := (y 1).isLt
          omega⟩ (y 2) : S12x4x256.Idx → EReal) :=
    (Pipeline.withArrays_arr (cfgs 0).spec launch0.win.arr_inj c (V0 m c) (fun w => (dats m 0 c).arrAt w (cfgs 0).N) 5).trans (final5 m c)
  rw [h]
  show broadcastInDim S1x48x256 ![1, 2] bcast_S48x256_S1x48x256_1_2 (shapeCast S48x256 (_ : S12x4x256.Idx → EReal) shapeCasts_S12x4x256_S48x256) (ix3 0 g ch) = _
  pointwise
  congr 1
  apply Fin.ext
  show 4 * (g.val / 4) + g.val % 4 = g.val
  omega

end Cert.KernelIdeal.Hand

end
-- ==== Proof.RVal.lean ====
module

public import proofs.«01_k».proof.Proof.Spec
public import proofs.«01_k».proof.Proof.Gen.ReferenceIdeal.Skeleton
public import Idealize.ShloMosaic.Lib.Pointwise

@[expose] public section

set_option maxRecDepth 16384

noncomputable section

/-! The reference's values at an index. -/

namespace Cert.ReferenceIdeal.Hand

open Idealize.ShloMosaic Idealize.ShloMosaic.TcCoe Idealize.SL.Sem
open Cert.ReferenceIdeal Cert.ReferenceIdeal.Gen

variable (x0 : Vec Ideal S1x6144x256 .i8) (x1 : Vec Ideal S1x256 .f32) (x2 : Vec Ideal S6144x6144 .bf16) (x3 : Vec Ideal S1x64x64 .bf16)

/-- The reference's rotated weights as a plain function of row and channel. -/
def w : Fin 6144 → Fin 256 → EReal :=
  Spec.refW (fun j c => x0 (ix3 0 j c)) (fun c => x1 (ix2 0 c)) (fun j i => x2 (ix2 j i)) (fun d e => x3 (ix3 0 d e))

theorem pay2_at (g : Fin 48) (r : Fin 128) (c : Fin 256) :
    k0_pay2 (F := Ideal) x0 x1 x2 x3 (ix4 0 g r c) = Spec.grp (w x0 x1 x2 x3) g c r := by
  pointwise [k0_pay2]
  rfl

theorem pay3_at (g : Fin 48) (c : Fin 256) :
    k0_pay3 (F := Ideal) x0 x1 x2 x3 (ix3 0 g c) = Spec.scaleOut (w x0 x1 x2 x3) g c := by
  have hw := fun r => pay2_at x0 x1 x2 x3 g r c
  revert hw
  unfold Spec.scaleOut
  generalize Spec.grp (w x0 x1 x2 x3) g c = v
  intro hw
  generalize hq : k0_pay2 (F := Ideal) x0 x1 x2 x3 = q at hw
  pointwise [k0_pay3, hq]
  simp only [hw]
  rfl

theorem pay4_at (p : Fin 3072) (b : Fin 2) (c : Fin 256) :
    k0_pay4 (F := Ideal) x0 x1 x2 x3 (ix4 0 p b c)
      = Spec.code (Spec.grp (w x0 x1 x2 x3) ⟨p.val / 64, by omega⟩ c) ⟨p.val % 64 * 2 + b.val, by omega⟩ := by
  have hw := pay2_at x0 x1 x2 x3 ⟨p.val / 64, by omega⟩ ⟨p.val % 64 * 2 + b.val, by omega⟩ c
  have hs := pay3_at x0 x1 x2 x3 ⟨p.val / 64, by omega⟩ c
  generalize hq : k0_pay2 (F := Ideal) x0 x1 x2 x3 = q at hw
  generalize hq' : k0_pay3 (F := Ideal) x0 x1 x2 x3 = q' at hs
  pointwise [k0_pay4, hq, hq']
  unfold Spec.code
  rw [hw, hs]
  rfl

theorem pay1_at (p : Fin 3072) (c : Fin 256) :
    k0_pay1 (k0_pay5 (F := Ideal) x0 x1 x2 x3) (k0_pay6 (F := Ideal) x0 x1 x2 x3) (ix3 0 p c) = Spec.codeOut (w x0 x1 x2 x3) p c := by
  have h0 := pay4_at x0 x1 x2 x3 p 0 c
  have h1 := pay4_at x0 x1 x2 x3 p 1 c
  generalize hq : k0_pay4 (F := Ideal) x0 x1 x2 x3 = q at h0 h1
  pointwise [k0_pay1, k0_pay5, k0_pay6, hq]
  rw [h0, h1]
  rfl

end Cert.ReferenceIdeal.Hand

end
-- ==== Proof.RRun.lean ====
module

public import proofs.«01_k».proof.Proof.RVal
public import proofs.«01_k».proof.Proof.Gen.ReferenceIdeal.Frame
public import Idealize.ShloMosaic.Lib.Claim
public import Idealize.ShloMosaic.Lib.Pipeline.ValueKit

@[expose] public section

set_option maxRecDepth 16384

noncomputable section

/-! The reference's two results, as plain functions of its arguments. -/

namespace Cert.ReferenceIdeal.Hand

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

/-- The windows' block indices: every window is its whole array. -/
theorem idx : ∀ t : Fin cfg0.N, win0_0.index t = ![0, 0, 0] ∧ win0_1.index t = ![0, 0] ∧ win0_2.index t = ![0, 0]
    ∧ win0_3.index t = ![0, 0, 0] ∧ win0_4.index t = ![0, 0, 0] ∧ win0_5.index t = ![0, 0, 0] :=
  (by decide +kernel : ∀ t : Fin grid0.N, win0_0.index t = ![0, 0, 0] ∧ win0_1.index t = ![0, 0] ∧ win0_2.index t = ![0, 0]
    ∧ win0_3.index t = ![0, 0, 0] ∧ win0_4.index t = ![0, 0, 0] ∧ win0_5.index t = ![0, 0, 0])

theorem ld0 (c : Dev nD) (t : Fin cfg0.N) : (View.ld (iblk m c 0 t) r0_0 : Vec Ideal S1x6144x256 .i8) = m ((c : Thread nD τ).loc main_arg0) := by
  funext k; idx_vars k; pointwise; blk_point [iblk, V, idx t]
theorem ld1 (c : Dev nD) (t : Fin cfg0.N) : (View.ld (iblk m c 1 t) r0_1 : Vec Ideal S1x256 .f32) = m ((c : Thread nD τ).loc main_arg1) := by
  funext k; idx_vars k; pointwise; blk_point [iblk, V, idx t]
theorem ld2 (c : Dev nD) (t : Fin cfg0.N) : (View.ld (iblk m c 2 t) r0_2 : Vec Ideal S6144x6144 .bf16) = m ((c : Thread nD τ).loc main_arg2) := by
  funext k; idx_vars k; pointwise; blk_point [iblk, V, idx t]
theorem ld3 (c : Dev nD) (t : Fin cfg0.N) : (View.ld (iblk m c 3 t) r0_3 : Vec Ideal S1x64x64 .bf16) = m ((c : Thread nD τ).loc main_arg3) := by
  funext k; idx_vars k; pointwise; blk_point [iblk, V, idx t]

/-- The reference's rotated weights from its arguments. -/
def mw (c : Dev nD) : Fin 6144 → Fin 256 → EReal :=
  w (m ((c : Thread nD τ).loc main_arg0)) (m ((c : Thread nD τ).loc main_arg1)) (m ((c : Thread nD τ).loc main_arg2)) (m ((c : Thread nD τ).loc main_arg3))

/-- The arguments as the body loads them give the same weights. -/
theorem w_ld (c : Dev nD) (t : Fin cfg0.N) :
    w (View.ld (iblk m c 0 t) r0_0) (View.ld (iblk m c 1 t) r0_1) (View.ld (iblk m c 2 t) r0_2) (View.ld (iblk m c 3 t) r0_3) = mw m c := by
  unfold mw
  rw [ld0, ld1, ld2, ld3]

/-- A store of the whole codes array leaves the stored codes. -/
theorem whole4 (q : Vec Ideal S1x3072x256 .i8) (a : Fin 1) (p : Fin 3072) (ch : Fin 256) :
    (View.canon [⟨r0_4, q⟩] : Vec Ideal S1x3072x256 .i8) (ix3 a p ch) = q (ix3 a p ch) := by
  exact congrFun (View.canon_cons_unit_lit _ q [] (by decide)) _

/-- A store of the whole scales array leaves the stored scales. -/
theorem whole5 (q : Vec Ideal S1x48x256 .f32) (a : Fin 1) (g : Fin 48) (ch : Fin 256) :
    (View.canon [⟨r0_5, q⟩] : Vec Ideal S1x48x256 .f32) (ix3 a g ch) = q (ix3 a g ch) := by
  exact congrFun (View.canon_cons_unit_lit _ q [] (by decide)) _

/-- What the body stores in the codes' block. -/
theorem out4_emb (c : Dev nD) (t : Fin cfg0.N) (y : S1x3072x256.Idx) :
    out0_4 (F := Ideal) (iblk m c 0 t) (iblk m c 1 t) (iblk m c 2 t) (iblk m c 3 t) y = Spec.codeOut (mw m c) (y 1) (y 2) := by
  unfold out0_4
  idx_vars y
  obtain rfl : y0 = 0 := Subsingleton.elim _ _
  refine (whole4 _ _ _ _).trans ?_
  refine (pay1_at _ _ _ _ _ _).trans ?_
  exact congrArg (fun f => Spec.codeOut f _ _) (w_ld m c t)

/-- What the body stores in the scales' block. -/
theorem out5_emb (c : Dev nD) (t : Fin cfg0.N) (y : S1x48x256.Idx) :
    out0_5 (F := Ideal) (iblk m c 0 t) (iblk m c 1 t) (iblk m c 2 t) (iblk m c 3 t) y = Spec.scaleOut (mw m c) (y 1) (y 2) := by
  unfold out0_5
  idx_vars y
  obtain rfl : y0 = 0 := Subsingleton.elim _ _
  refine (whole5 _ _ _ _).trans ?_
  refine (pay3_at _ _ _ _ _ _).trans ?_
  exact congrArg (fun f => Spec.scaleOut f _ _) (w_ld m c t)

/-- The reference's first result: the packed codes of its weights. -/
theorem final4 (c : Dev nD) : (dats m 0 c).arrAt 4 (cfgs 0).N
    = (fun y => Spec.codeOut (mw m c) (y 1) (y 2) : S1x3072x256.Idx → BitVec 8) := by
  refine (dats m 0 c).arrAt_eq_of_after_last 4 t0_0 (by decide +kernel) _ fun y => ?_
  have i1 : win0_4.index t0_0 1 = 0 := by rw [(idx t0_0).2.2.2.2.1]; rfl
  have i2 : win0_4.index t0_0 2 = 0 := by rw [(idx t0_0).2.2.2.2.1]; rfl
  blk_simp
  rw [after0_4]
  exact out4_emb m c t0_0 y

/-- The reference's second result: the scales of its weights. -/
theorem final5 (c : Dev nD) : (dats m 0 c).arrAt 5 (cfgs 0).N
    = (fun y => Spec.scaleOut (mw m c) (y 1) (y 2) : S1x48x256.Idx → EReal) := by
  refine (dats m 0 c).arrAt_eq_of_after_last 5 t0_0 (by decide +kernel) _ fun y => ?_
  have i1 : win0_5.index t0_0 1 = 0 := by rw [(idx t0_0).2.2.2.2.2]; rfl
  have i2 : win0_5.index t0_0 2 = 0 := by rw [(idx t0_0).2.2.2.2.2]; rfl
  blk_simp
  rw [after0_5]
  exact out5_emb m c t0_0 y

end Cert.ReferenceIdeal.Hand

end
-- ==== Proof.Join.lean ====
module

public import proofs.«01_k».proof.Proof.KIVal
public import proofs.«01_k».proof.Proof.RRun

@[expose] public section

set_option maxRecDepth 16384

noncomputable section

/-! The two programs' results are the same. -/

namespace Cert.Proof

open Idealize.ShloMosaic Idealize.ShloMosaic.TcCoe Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The memories of the two programs hold the same arguments on core `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- The kernel's first result at the end of its run. -/
def codesK (c : Dev Cert.KernelIdeal.nD) : Buf (Elt Ideal) ((c.tc : Thread Cert.KernelIdeal.nD Cert.KernelIdeal.τ).loc Cert.KernelIdeal.main_v4) :=
  Pipeline.afterTail₀ Cert.KernelIdeal.cfgs (Cert.KernelIdeal.Hand.dats m) 0 (Cert.KernelIdeal.Gen.V0 m) [Cert.KernelIdeal.Gen.hostOps1] c Cert.KernelIdeal.main_v4

/-- The kernel's second result at the end of its run. -/
def scalesK (c : Dev Cert.KernelIdeal.nD) : Buf (Elt Ideal) ((c.tc : Thread Cert.KernelIdeal.nD Cert.KernelIdeal.τ).loc Cert.KernelIdeal.main_v5) :=
  Pipeline.afterTail₀ Cert.KernelIdeal.cfgs (Cert.KernelIdeal.Hand.dats m) 0 (Cert.KernelIdeal.Gen.V0 m) [Cert.KernelIdeal.Gen.hostOps1] c Cert.KernelIdeal.main_v5

/-- With equal arguments the reference's plain weights are the kernel's arguments' plain weights. -/
theorem mw_eq (c : Dev Cert.KernelIdeal.nD) (h : Agree m m' c) : Cert.ReferenceIdeal.Hand.mw m' c
    = Spec.refW (fun j ch => m ((c.tc : Thread Cert.KernelIdeal.nD Cert.KernelIdeal.τ).loc Cert.KernelIdeal.main_arg0) (ix3 0 j ch))
        (fun ch => m ((c.tc : Thread Cert.KernelIdeal.nD Cert.KernelIdeal.τ).loc Cert.KernelIdeal.main_arg1) (ix2 0 ch))
        (fun j i => m ((c.tc : Thread Cert.KernelIdeal.nD Cert.KernelIdeal.τ).loc Cert.KernelIdeal.main_arg2) (ix2 j i))
        (fun d e => m ((c.tc : Thread Cert.KernelIdeal.nD Cert.KernelIdeal.τ).loc Cert.KernelIdeal.main_arg3) (ix3 0 d e)) := by
  unfold Cert.ReferenceIdeal.Hand.mw Cert.ReferenceIdeal.Hand.w
  rw [h.1, h.2.1, h.2.2.1, h.2.2.2]

/-- The packed codes agree. -/
theorem codes_eq (c : Dev Cert.KernelIdeal.nD) (h : Agree m m' c) :
    (Cert.ReferenceIdeal.Gen.dats m' 0 c).arrAt 4 (Cert.ReferenceIdeal.cfgs 0).N = codesK m c := by
  rw [Cert.ReferenceIdeal.Hand.final4 m' c, mw_eq m m' c h]
  refine (funext fun y => ?_ : _ = (codesK m c : Cert.KernelIdeal.S1x3072x256.Idx → BitVec 8))
  idx_vars y
  obtain rfl : y0 = 0 := Subsingleton.elim _ _
  unfold codesK
  refine Eq.trans ?_ (Cert.KernelIdeal.Hand.res4 m c y1 y2).symm
  unfold Cert.KernelIdeal.Hand.kw
  exact (Spec.codeOut_eq _ _ _ _ _ _).symm

/-- The scales agree. -/
theorem scales_eq (c : Dev Cert.KernelIdeal.nD) (h : Agree m m' c) :
    (Cert.ReferenceIdeal.Gen.dats m' 0 c).arrAt 5 (Cert.ReferenceIdeal.cfgs 0).N = scalesK m c := by
  rw [Cert.ReferenceIdeal.Hand.final5 m' c, mw_eq m m' c h]
  refine (funext fun y => ?_ : _ = (scalesK m c : Cert.KernelIdeal.S1x48x256.Idx → EReal))
  idx_vars y
  obtain rfl : y0 = 0 := Subsingleton.elim _ _
  unfold scalesK
  refine Eq.trans ?_ (Cert.KernelIdeal.Hand.res5 m c y1 y2).symm
  unfold Cert.KernelIdeal.Hand.kw
  exact (Spec.scaleOut_eq _ _ _ _ _ _).symm

/-- From any memory the idealized kernel ends with `codesK` and `scalesK` as its results and its arguments unchanged. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v4) = codesK m c
        ∧ r.2.mem ((c.tc : Thread Cert.KernelIdeal.nD Cert.KernelIdeal.τ).loc Cert.KernelIdeal.main_v5) = scalesK m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun _ h c =>
      ⟨(h.1 c).2 Cert.KernelIdeal.main_v4 (Pipeline.mem_restRefs_of Cert.KernelIdeal.main_v4 (by decide) (by decide)),
        (h.1 c).2 Cert.KernelIdeal.main_v5 (Pipeline.mem_restRefs_of Cert.KernelIdeal.main_v5 (by decide) (by decide)), h.2 c⟩)
    (θ_run_and (Cert.KernelIdeal.Hand.run_main m g) (Cert.KernelIdeal.Hand.unchanged m g))

/-- From a memory with the same arguments the reference ends with the kernel's results and its own arguments unchanged. -/
theorem reference_run (h : ∀ c : Dev Cert.KernelIdeal.nD, Agree m m' c) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0_0) = codesK m c
        ∧ r.2.mem ((c.tc : Thread Cert.ReferenceIdeal.nD Cert.ReferenceIdeal.τ).loc Cert.ReferenceIdeal.main_v0_1) = scalesK m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run _ _ _).mono (fun _ hr c =>
      ⟨((hr.1 c).1 4).trans (codes_eq m m' c (h c)), ((hr.1 c).1 5).trans (scales_eq m m' c (h c)), hr.2.1 c⟩)
    (θ_run_and (Cert.ReferenceIdeal.Gen.run_main m' g') (Cert.ReferenceIdeal.Gen.frame m' g'))

end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.KIRun
public import proofs.«01_k».proof.Proof.Join
public import Idealize.ShloMosaic.Adequacy
public import Idealize.ShloMosaic.Init

@[expose] public section

noncomputable section

namespace Cert.Proof

open Idealize.ShloMosaic Idealize.SL.Sem Cert.Kernel

/-- The three programs end with their arguments unchanged and every counter at zero, the idealized kernel is the printed one,
and from equal arguments the idealized kernel and the reference end with the same packed codes and the same scales. -/
theorem claim : Cert.Claim := ⟨Cert.Kernel.Gen.facts, Cert.KernelIdeal.Gen.facts, Cert.ReferenceIdeal.Gen.facts,
  fun m g _ => Cert.Kernel.Hand.frame_all m g, fun m g _ => Cert.KernelIdeal.Hand.frame_all m g, fun m g _ => Cert.ReferenceIdeal.Gen.frame m g, trivial,
  fun m g m' g' _ hagree => ⟨codesK m, scalesK m, kernel_run m g, reference_run m m' hagree g'⟩⟩

end Cert.Proof

end
